-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_n" .f32 0x3DAAAAAB#32 ((1 / 12 : ℝ) : EReal)

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S4096x12288 : Shape := ⟨2, ![4096, 12288]⟩
abbrev S12288 : Shape := ⟨1, ![12288]⟩
abbrev S1024x4096x16 : Shape := ⟨3, ![1024, 4096, 16]⟩
abbrev S_ : Shape := ⟨0, ![]⟩

class Facts : Prop where
  bcast_S_S4096x12288 : S_.BroadcastsInDim S4096x12288 (![] : Fin 0 → Fin S4096x12288.rank)
  reducesTo_S4096x12288_S_d0_1 : S4096x12288.ReducesTo [0, 1] S_
  h_S_ : 0 < S_.numel
  bcast_S_S12288 : S_.BroadcastsInDim S12288 (![] : Fin 0 → Fin S12288.rank)
  reducesTo_S12288_S_d0 : S12288.ReducesTo [0] S_

variable [Facts]

def fn {F : FTy → Type} [FloatOps F] (main_arg0 : IVec S4096x12288 32) (main_arg1 : IVec S12288 32) (main_arg2 : FVec F S1024x4096x16 .f32) : IVec S_ 1 :=
  let main_c : IVec S_ 32 := constantI S_ 32 0#32
  let main_v0 : IVec S4096x12288 32 := broadcastInDim S4096x12288 ![] bcast_S_S4096x12288 main_c
  let main_v1 : IVec S4096x12288 1 := cmpi .sge main_arg0 main_v0
  let main_c_0 : IVec S_ 1 := constantI S_ 1 1#1
  let main_v2 : IVec S_ 1 := (fun x v => Host.reduce IntOp.andi x v reducesTo_S4096x12288_S_d0_1 h_S_) main_v1 main_c_0
  let main_c_1 : IVec S_ 32 := constantI S_ 32 1#32
  let main_v3 : IVec S4096x12288 32 := broadcastInDim S4096x12288 ![] bcast_S_S4096x12288 main_c_1
  let main_v4 : IVec S4096x12288 1 := cmpi .sle main_arg0 main_v3
  let main_c_2 : IVec S_ 1 := constantI S_ 1 1#1
  let main_v5 : IVec S_ 1 := (fun x v => Host.reduce IntOp.andi x v reducesTo_S4096x12288_S_d0_1 h_S_) main_v4 main_c_2
  let main_v6 : IVec S_ 1 := andi main_v2 main_v5
  let main_c_3 : IVec S_ 32 := constantI S_ 32 0#32
  let main_v7 : IVec S12288 32 := broadcastInDim S12288 ![] bcast_S_S12288 main_c_3
  let main_v8 : IVec S12288 1 := cmpi .sge main_arg1 main_v7
  let main_c_4 : IVec S_ 1 := constantI S_ 1 1#1
  let main_v9 : IVec S_ 1 := (fun x v => Host.reduce IntOp.andi x v reducesTo_S12288_S_d0 h_S_) main_v8 main_c_4
  let main_v10 : IVec S_ 1 := andi main_v6 main_v9
  let main_c_5 : IVec S_ 32 := constantI S_ 32 12288#32
  let main_v11 : IVec S12288 32 := broadcastInDim S12288 ![] bcast_S_S12288 main_c_5
  let main_v12 : IVec S12288 1 := cmpi .slt main_arg1 main_v11
  let main_c_6 : IVec S_ 1 := constantI S_ 1 1#1
  let main_v13 : IVec S_ 1 := (fun x v => Host.reduce IntOp.andi x v reducesTo_S12288_S_d0 h_S_) main_v12 main_c_6
  let main_v14 : IVec S_ 1 := andi main_v10 main_v13
  main_v14
-- ==== Kernel.lean ====
abbrev S4096x12288 : Shape := ⟨2, ![4096, 12288]⟩
abbrev S12288 : Shape := ⟨1, ![12288]⟩
abbrev S1024x4096x16 : Shape := ⟨3, ![1024, 4096, 16]⟩
abbrev S1024x12 : Shape := ⟨2, ![1024, 12]⟩
abbrev S12x1024 : Shape := ⟨2, ![12, 1024]⟩
abbrev S4194304x16 : Shape := ⟨2, ![4194304, 16]⟩
abbrev S4096x16 : Shape := ⟨2, ![4096, 16]⟩
abbrev S8x128 : Shape := ⟨2, ![8, 128]⟩
abbrev S1024x16 : Shape := ⟨2, ![1024, 16]⟩
abbrev S128x16 : Shape := ⟨2, ![128, 16]⟩
abbrev S_ : Shape := ⟨0, ![]⟩
abbrev S16 : Shape := ⟨1, ![16]⟩
abbrev S1x12288 : Shape := ⟨2, ![1, 12288]⟩
abbrev S1x16 : Shape := ⟨2, ![1, 16]⟩
abbrev S1x128 : Shape := ⟨2, ![1, 128]⟩
abbrev S128 : Shape := ⟨1, ![128]⟩

abbrev nBuf : Table → Nat
  | .hbm => 8
  | .local .scVector .vmem => 5
  | _ => 0

abbrev bufTy : (tb : Table) → Fin (nBuf tb) → BufTy
  | .hbm, ⟨0, _⟩ => ⟨S4096x12288, .i32⟩
  | .hbm, ⟨1, _⟩ => ⟨S12288, .i32⟩
  | .hbm, ⟨2, _⟩ => ⟨S1024x4096x16, .f32⟩
  | .hbm, ⟨3, _⟩ => ⟨S1024x12, .i32⟩
  | .hbm, ⟨4, _⟩ => ⟨S12x1024, .i32⟩
  | .hbm, ⟨5, _⟩ => ⟨S12288, .i32⟩
  | .hbm, ⟨6, _⟩ => ⟨S4194304x16, .f32⟩
  | .hbm, ⟨7, _⟩ => ⟨S4096x16, .f32⟩
  | .local .scVector .vmem, ⟨0, _⟩ => ⟨S12288, .i32⟩
  | .local .scVector .vmem, ⟨1, _⟩ => ⟨S12288, .i32⟩
  | .local .scVector .vmem, ⟨2, _⟩ => ⟨S8x128, .i32⟩
  | .local .scVector .vmem, ⟨3, _⟩ => ⟨S1024x16, .f32⟩
  | .local .scVector .vmem, ⟨4, _⟩ => ⟨S128x16, .f32⟩
  | _, _ => ⟨S4096x12288, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_arg0_scv : Ref sig .scVector := ⟨.hbm, 0, rfl⟩
abbrev main_v2_scv : Ref sig .scVector := ⟨.hbm, 5, rfl⟩
abbrev main_v3_scv : Ref sig .scVector := ⟨.hbm, 6, rfl⟩
abbrev main_v4_scv : Ref sig .scVector := ⟨.hbm, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c128_i32_1 : BitVec 32 := 128#32
  let v6 : BitVec 32 := Scalar.addi c0_i32_0 c128_i32_1
  let c1_i32 : BitVec 32 := 1#32
  ⟨c0_i32_0, v6, c1_i32⟩
def k0_off1 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_0 : BitVec 32 := 0#32
  let c1_i32 : BitVec 32 := 1#32
  let arg12 : BitVec 32 := Scf.iv c0_i32_0 c1_i32 k0_t1
  let v7 : BitVec 32 := Scalar.addi v2 arg12
  let c0_i32_97_r1 : BitVec 32 := 0#32
  ![v7.toNat, 0]
@[reducible] def k0_t2_loop : Scf.Loop 32 :=
  let c0_i32_4 : BitVec 32 := 0#32
  let c64_i32 : BitVec 32 := 64#32
  let v8 : BitVec 32 := Scalar.addi c0_i32_4 c64_i32
  let c1_i32_5 : BitVec 32 := 1#32
  ⟨c0_i32_4, v8, c1_i32_5⟩
def k0_off2 (k0_t2 : Fin k0_t2_loop.trips) : Fin 1 → Nat :=
  let c0_i32_98 : BitVec 32 := 0#32
  let c0_i32_4 : BitVec 32 := 0#32
  let c1_i32_5 : BitVec 32 := 1#32
  let arg13 : BitVec 32 := Scf.iv c0_i32_4 c1_i32_5 k0_t2
  let c16_i32 : BitVec 32 := 16#32
  let v81 : BitVec 32 := Scalar.muli arg13 c16_i32
  let v82 : BitVec 32 := Scalar.addi c0_i32_98 v81
  let v83 : Index := Scalar.indexCast v82
  ![v83.toNat]

def k0_chk1 (v84 : IVec S16 32) : Prop :=
  (∀ a x, ((![v84] : Fin 1 → IVec S16 32) a x).toNat < S12288.size a)
theorem k0_idx1_inb : ∀ (v84 : IVec S16 32) (k0_hw1 : k0_chk1 v84), ∀ a x, ((![v84] : Fin 1 → IVec S16 32) a x).toNat < S12288.size a := fun v84 k0_hw1 => k0_hw1
def k0_off3 (k0_t2 : Fin k0_t2_loop.trips) : Fin 1 → Nat :=
  let c1024_i32 : BitVec 32 := 1024#32
  let c0_i32_4 : BitVec 32 := 0#32
  let c1_i32_5 : BitVec 32 := 1#32
  let arg13 : BitVec 32 := Scf.iv c0_i32_4 c1_i32_5 k0_t2
  let c16_i32_100 : BitVec 32 := 16#32
  let v89 : BitVec 32 := Scalar.muli arg13 c16_i32_100
  let v90 : BitVec 32 := Scalar.addi c1024_i32 v89
  let v91 : Index := Scalar.indexCast v90
  ![v91.toNat]

def k0_chk2 (v92 : IVec S16 32) : Prop :=
  (∀ a x, ((![v92] : Fin 1 → IVec S16 32) a x).toNat < S12288.size a)
theorem k0_idx2_inb : ∀ (v92 : IVec S16 32) (k0_hw2 : k0_chk2 v92), ∀ a x, ((![v92] : Fin 1 → IVec S16 32) a x).toNat < S12288.size a := fun v92 k0_hw2 => k0_hw2
def k0_off4 (k0_t2 : Fin k0_t2_loop.trips) : Fin 1 → Nat :=
  let c2048_i32 : BitVec 32 := 2048#32
  let c0_i32_4 : BitVec 32 := 0#32
  let c1_i32_5 : BitVec 32 := 1#32
  let arg13 : BitVec 32 := Scf.iv c0_i32_4 c1_i32_5 k0_t2
  let c16_i32_102 : BitVec 32 := 16#32
  let v97 : BitVec 32 := Scalar.muli arg13 c16_i32_102
  let v98 : BitVec 32 := Scalar.addi c2048_i32 v97
  let v99 : Index := Scalar.indexCast v98
  ![v99.toNat]

def k0_chk3 (v100 : IVec S16 32) : Prop :=
  (∀ a x, ((![v100] : Fin 1 → IVec S16 32) a x).toNat < S12288.size a)
theorem k0_idx3_inb : ∀ (v100 : IVec S16 32) (k0_hw3 : k0_chk3 v100), ∀ a x, ((![v100] : Fin 1 → IVec S16 32) a x).toNat < S12288.size a := fun v100 k0_hw3 => k0_hw3
def k0_off5 (k0_t2 : Fin k0_t2_loop.trips) : Fin 1 → Nat :=
  let c3072_i32 : BitVec 32 := 3072#32
  let c0_i32_4 : BitVec 32 := 0#32
  let c1_i32_5 : BitVec 32 := 1#32
  let arg13 : BitVec 32 := Scf.iv c0_i32_4 c1_i32_5 k0_t2
  let c16_i32_104 : BitVec 32 := 16#32
  let v105 : BitVec 32 := Scalar.muli arg13 c16_i32_104
  let v106 : BitVec 32 := Scalar.addi c3072_i32 v105
  let v107 : Index := Scalar.indexCast v106
  ![v107.toNat]

def k0_chk4 (v108 : IVec S16 32) : Prop :=
  (∀ a x, ((![v108] : Fin 1 → IVec S16 32) a x).toNat < S12288.size a)
theorem k0_idx4_inb : ∀ (v108 : IVec S16 32) (k0_hw4 : k0_chk4 v108), ∀ a x, ((![v108] : Fin 1 → IVec S16 32) a x).toNat < S12288.size a := fun v108 k0_hw4 => k0_hw4
def k0_off6 (k0_t2 : Fin k0_t2_loop.trips) : Fin 1 → Nat :=
  let c4096_i32_107 : BitVec 32 := 4096#32
  let c0_i32_4 : BitVec 32 := 0#32
  let c1_i32_5 : BitVec 32 := 1#32
  let arg13 : BitVec 32 := Scf.iv c0_i32_4 c1_i32_5 k0_t2
  let c16_i32_106 : BitVec 32 := 16#32
  let v113 : BitVec 32 := Scalar.muli arg13 c16_i32_106
  let v114 : BitVec 32 := Scalar.addi c4096_i32_107 v113
  let v115 : Index := Scalar.indexCast v114
  ![v115.toNat]

def k0_chk5 (v116 : IVec S16 32) : Prop :=
  (∀ a x, ((![v116] : Fin 1 → IVec S16 32) a x).toNat < S12288.size a)
theorem k0_idx5_inb : ∀ (v116 : IVec S16 32) (k0_hw5 : k0_chk5 v116), ∀ a x, ((![v116] : Fin 1 → IVec S16 32) a x).toNat < S12288.size a := fun v116 k0_hw5 => k0_hw5
def k0_off7 (k0_t2 : Fin k0_t2_loop.trips) : Fin 1 → Nat :=
  let c5120_i32 : BitVec 32 := 5120#32
  let c0_i32_4 : BitVec 32 := 0#32
  let c1_i32_5 : BitVec 32 := 1#32
  let arg13 : BitVec 32 := Scf.iv c0_i32_4 c1_i32_5 k0_t2
  let c16_i32_109 : BitVec 32 := 16#32
  let v121 : BitVec 32 := Scalar.muli arg13 c16_i32_109
  let v122 : BitVec 32 := Scalar.addi c5120_i32 v121
  let v123 : Index := Scalar.indexCast v122
  ![v123.toNat]

def k0_chk6 (v124 : IVec S16 32) : Prop :=
  (∀ a x, ((![v124] : Fin 1 → IVec S16 32) a x).toNat < S12288.size a)
theorem k0_idx6_inb : ∀ (v124 : IVec S16 32) (k0_hw6 : k0_chk6 v124), ∀ a x, ((![v124] : Fin 1 → IVec S16 32) a x).toNat < S12288.size a := fun v124 k0_hw6 => k0_hw6
def k0_off8 (k0_t2 : Fin k0_t2_loop.trips) : Fin 1 → Nat :=
  let c6144_i32 : BitVec 32 := 6144#32
  let c0_i32_4 : BitVec 32 := 0#32
  let c1_i32_5 : BitVec 32 := 1#32
  let arg13 : BitVec 32 := Scf.iv c0_i32_4 c1_i32_5 k0_t2
  let c16_i32_111 : BitVec 32 := 16#32
  let v129 : BitVec 32 := Scalar.muli arg13 c16_i32_111
  let v130 : BitVec 32 := Scalar.addi c6144_i32 v129
  let v131 : Index := Scalar.indexCast v130
  ![v131.toNat]

def k0_chk7 (v132 : IVec S16 32) : Prop :=
  (∀ a x, ((![v132] : Fin 1 → IVec S16 32) a x).toNat < S12288.size a)
theorem k0_idx7_inb : ∀ (v132 : IVec S16 32) (k0_hw7 : k0_chk7 v132), ∀ a x, ((![v132] : Fin 1 → IVec S16 32) a x).toNat < S12288.size a := fun v132 k0_hw7 => k0_hw7
def k0_off9 (k0_t2 : Fin k0_t2_loop.trips) : Fin 1 → Nat :=
  let c7168_i32 : BitVec 32 := 7168#32
  let c0_i32_4 : BitVec 32 := 0#32
  let c1_i32_5 : BitVec 32 := 1#32
  let arg13 : BitVec 32 := Scf.iv c0_i32_4 c1_i32_5 k0_t2
  let c16_i32_113 : BitVec 32 := 16#32
  let v137 : BitVec 32 := Scalar.muli arg13 c16_i32_113
  let v138 : BitVec 32 := Scalar.addi c7168_i32 v137
  let v139 : Index := Scalar.indexCast v138
  ![v139.toNat]

def k0_chk8 (v140 : IVec S16 32) : Prop :=
  (∀ a x, ((![v140] : Fin 1 → IVec S16 32) a x).toNat < S12288.size a)
theorem k0_idx8_inb : ∀ (v140 : IVec S16 32) (k0_hw8 : k0_chk8 v140), ∀ a x, ((![v140] : Fin 1 → IVec S16 32) a x).toNat < S12288.size a := fun v140 k0_hw8 => k0_hw8
def k0_off10 (k0_t2 : Fin k0_t2_loop.trips) : Fin 1 → Nat :=
  let c8192_i32 : BitVec 32 := 8192#32
  let c0_i32_4 : BitVec 32 := 0#32
  let c1_i32_5 : BitVec 32 := 1#32
  let arg13 : BitVec 32 := Scf.iv c0_i32_4 c1_i32_5 k0_t2
  let c16_i32_115 : BitVec 32 := 16#32
  let v145 : BitVec 32 := Scalar.muli arg13 c16_i32_115
  let v146 : BitVec 32 := Scalar.addi c8192_i32 v145
  let v147 : Index := Scalar.indexCast v146
  ![v147.toNat]

def k0_chk9 (v148 : IVec S16 32) : Prop :=
  (∀ a x, ((![v148] : Fin 1 → IVec S16 32) a x).toNat < S12288.size a)
theorem k0_idx9_inb : ∀ (v148 : IVec S16 32) (k0_hw9 : k0_chk9 v148), ∀ a x, ((![v148] : Fin 1 → IVec S16 32) a x).toNat < S12288.size a := fun v148 k0_hw9 => k0_hw9
def k0_off11 (k0_t2 : Fin k0_t2_loop.trips) : Fin 1 → Nat :=
  let c9216_i32 : BitVec 32 := 9216#32
  let c0_i32_4 : BitVec 32 := 0#32
  let c1_i32_5 : BitVec 32 := 1#32
  let arg13 : BitVec 32 := Scf.iv c0_i32_4 c1_i32_5 k0_t2
  let c16_i32_116 : BitVec 32 := 16#32
  let v153 : BitVec 32 := Scalar.muli arg13 c16_i32_116
  let v154 : BitVec 32 := Scalar.addi c9216_i32 v153
  let v155 : Index := Scalar.indexCast v154
  ![v155.toNat]

def k0_chk10 (v156 : IVec S16 32) : Prop :=
  (∀ a x, ((![v156] : Fin 1 → IVec S16 32) a x).toNat < S12288.size a)
theorem k0_idx10_inb : ∀ (v156 : IVec S16 32) (k0_hw10 : k0_chk10 v156), ∀ a x, ((![v156] : Fin 1 → IVec S16 32) a x).toNat < S12288.size a := fun v156 k0_hw10 => k0_hw10
def k0_off12 (k0_t2 : Fin k0_t2_loop.trips) : Fin 1 → Nat :=
  let c10240_i32 : BitVec 32 := 10240#32
  let c0_i32_4 : BitVec 32 := 0#32
  let c1_i32_5 : BitVec 32 := 1#32
  let arg13 : BitVec 32 := Scf.iv c0_i32_4 c1_i32_5 k0_t2
  let c16_i32_117 : BitVec 32 := 16#32
  let v161 : BitVec 32 := Scalar.muli arg13 c16_i32_117
  let v162 : BitVec 32 := Scalar.addi c10240_i32 v161
  let v163 : Index := Scalar.indexCast v162
  ![v163.toNat]

def k0_chk11 (v164 : IVec S16 32) : Prop :=
  (∀ a x, ((![v164] : Fin 1 → IVec S16 32) a x).toNat < S12288.size a)
theorem k0_idx11_inb : ∀ (v164 : IVec S16 32) (k0_hw11 : k0_chk11 v164), ∀ a x, ((![v164] : Fin 1 → IVec S16 32) a x).toNat < S12288.size a := fun v164 k0_hw11 => k0_hw11
def k0_off13 (k0_t2 : Fin k0_t2_loop.trips) : Fin 1 → Nat :=
  let c11264_i32 : BitVec 32 := 11264#32
  let c0_i32_4 : BitVec 32 := 0#32
  let c1_i32_5 : BitVec 32 := 1#32
  let arg13 : BitVec 32 := Scf.iv c0_i32_4 c1_i32_5 k0_t2
  let c16_i32_118 : BitVec 32 := 16#32
  let v169 : BitVec 32 := Scalar.muli arg13 c16_i32_118
  let v170 : BitVec 32 := Scalar.addi c11264_i32 v169
  let v171 : Index := Scalar.indexCast v170
  ![v171.toNat]

def k0_chk12 (v172 : IVec S16 32) : Prop :=
  (∀ a x, ((![v172] : Fin 1 → IVec S16 32) a x).toNat < S12288.size a)
theorem k0_idx12_inb : ∀ (v172 : IVec S16 32) (k0_hw12 : k0_chk12 v172), ∀ a x, ((![v172] : Fin 1 → IVec S16 32) a x).toNat < S12288.size a := fun v172 k0_hw12 => k0_hw12
def k0_off14 (k0_t2 : Fin k0_t2_loop.trips) : Fin 2 → Nat :=
  let c0_i32_4 : BitVec 32 := 0#32
  let c1_i32_5 : BitVec 32 := 1#32
  let arg13 : BitVec 32 := Scf.iv c0_i32_4 c1_i32_5 k0_t2
  let c0_i32_120 : BitVec 32 := 0#32
  let v182 : BitVec 1 := Scalar.cmpi .sgt arg13 c0_i32_120
  let v183 : BitVec 32 := Scalar.extui v182
  let c0_i32_121 : BitVec 32 := 0#32
  let v184 : BitVec 1 := Scalar.cmpi .slt arg13 c0_i32_121
  let v185 : BitVec 32 := Scalar.extui v184
  let v186 : BitVec 32 := Scalar.subi v183 v185
  let c8_i32_119 : BitVec 32 := 8#32
  let c0_i32_122 : BitVec 32 := 0#32
  let v187 : BitVec 1 := Scalar.cmpi .sgt c8_i32_119 c0_i32_122
  let v188 : BitVec 32 := Scalar.extui v187
  let c0_i32_123 : BitVec 32 := 0#32
  let v189 : BitVec 1 := Scalar.cmpi .slt c8_i32_119 c0_i32_123
  let v190 : BitVec 32 := Scalar.extui v189
  let v191 : BitVec 32 := Scalar.subi v188 v190
  let v192 : BitVec 1 := Scalar.cmpi .ne v186 v191
  let v193 : BitVec 32 := Scalar.remsi arg13 c8_i32_119
  let c0_i32_124 : BitVec 32 := 0#32
  let v194 : BitVec 1 := Scalar.cmpi .ne v193 c0_i32_124
  let v195 : BitVec 1 := Scalar.andi v192 v194
  let v181 : BitVec 32 := Scalar.divsi arg13 c8_i32_119
  let c1_i32_125 : BitVec 32 := 1#32
  let v196 : BitVec 32 := Scalar.subi v181 c1_i32_125
  let v197 : BitVec 32 := Scalar.select v195 v196 v181
  let v201 : Index := Scalar.indexCast v197
  let c8_i32_126 : BitVec 32 := 8#32
  let v198 : BitVec 32 := Scalar.muli v197 c8_i32_126
  let v199 : BitVec 32 := Scalar.subi arg13 v198
  let c16_i32_127 : BitVec 32 := 16#32
  let v200 : BitVec 32 := Scalar.muli v199 c16_i32_127
  let v202 : Index := Scalar.indexCast v200
  ![v201.toNat, v202.toNat]
@[reducible] def k0_t3_loop : Scf.Loop 32 :=
  let c0_i32_92 : BitVec 32 := 0#32
  let c256_i32_93 : BitVec 32 := 256#32
  let v74 : BitVec 32 := Scalar.addi c0_i32_92 c256_i32_93
  let c1_i32_94 : BitVec 32 := 1#32
  ⟨c0_i32_92, v74, c1_i32_94⟩
def k0_off15 (k0_t3 : Fin k0_t3_loop.trips) (c0_i32_98 : BitVec 32) : Fin 2 → Nat :=
  let c0_i32_92 : BitVec 32 := 0#32
  let c1_i32_94 : BitVec 32 := 1#32
  let arg13 : BitVec 32 := Scf.iv c0_i32_92 c1_i32_94 k0_t3
  let c4_i32_97 : BitVec 32 := 4#32
  let v80 : BitVec 32 := Scalar.muli arg13 c4_i32_97
  let v81 : BitVec 32 := Scalar.addi v80 c0_i32_98
  let v82 : Index := Scalar.indexCast v81
  let c0_99 : Index := 0#32
  ![v82.toNat, 0]
def k0_off16 (k0_t1 : Fin k0_t1_loop.trips) : Fin 2 → Nat :=
  let c0_i32_0 : BitVec 32 := 0#32
  let c1_i32 : BitVec 32 := 1#32
  let arg12 : BitVec 32 := Scf.iv c0_i32_0 c1_i32 k0_t1
  let v78 : Index := Scalar.indexCast arg12
  let c0 : Index := 0#32
  ![v78.toNat, 0]
def k0_off17 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_3_r2 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv_n" => some ((1 / 12 : ℝ) : EReal)
  | _ => none
-- ==== ReferenceIdeal.lean ====
abbrev S4096x12288 : Shape := ⟨2, ![4096, 12288]⟩
abbrev S12288 : Shape := ⟨1, ![12288]⟩
abbrev S1024x4096x16 : Shape := ⟨3, ![1024, 4096, 16]⟩
abbrev S_ : Shape := ⟨0, ![]⟩
abbrev S12288x1 : Shape := ⟨2, ![12288, 1]⟩
abbrev S1 : Shape := ⟨1, ![1]⟩
abbrev S1x1 : Shape := ⟨2, ![1, 1]⟩
abbrev S4096x1024x12 : Shape := ⟨3, ![4096, 1024, 12]⟩
abbrev S12 : Shape := ⟨1, ![12]⟩
abbrev S1x1x12 : Shape := ⟨3, ![1, 1, 12]⟩
abbrev S4096x1024 : Shape := ⟨2, ![4096, 1024]⟩
abbrev S1024 : Shape := ⟨1, ![1024]⟩
abbrev S1x1024 : Shape := ⟨2, ![1, 1024]⟩
abbrev S4096x1024x1 : Shape := ⟨3, ![4096, 1024, 1]⟩
abbrev S4096x1024x2 : Shape := ⟨3, ![4096, 1024, 2]⟩
abbrev S4096x1024x16 : Shape := ⟨3, ![4096, 1024, 16]⟩
abbrev S4096x16 : Shape := ⟨2, ![4096, 16]⟩

abbrev nBuf : Space → Nat
  | .hbm => 153
  | .vmem => 0
  | .smem => 0
  | _ => 0

abbrev hbmTy0_0 (i : Nat) : BufTy := match i % 128 with
  | 0 => ⟨S4096x12288, .i32⟩
  | 1 => ⟨S12288, .i32⟩
  | 2 => ⟨S1024x4096x16, .f32⟩
  | 3 => ⟨S_, .i32⟩
  | 4 => ⟨S12288, .i32⟩
  | 5 => ⟨S12288, .i1⟩
  | 6 => ⟨S_, .i32⟩
  | 7 => ⟨S12288, .i32⟩
  | 8 => ⟨S12288, .i32⟩
  | 9 => ⟨S12288, .i32⟩
  | 10 => ⟨S12288x1, .i32⟩
  | 11 => ⟨S1, .i32⟩
  | 12 => ⟨S_, .i32⟩
  | 13 => ⟨S12288x1, .i32⟩
  | 14 => ⟨S12288x1, .i1⟩
  | 15 => ⟨S1x1, .i32⟩
  | 16 => ⟨S12288x1, .i32⟩
  | 17 => ⟨S12288x1, .i1⟩
  | 18 => ⟨S12288x1, .i1⟩
  | 19 => ⟨S_, .i1⟩
  | 20 => ⟨S12288, .i1⟩
  | 21 => ⟨S4096x12288, .i32⟩
  | 22 => ⟨S4096x12288, .i1⟩
  | 23 => ⟨S_, .i32⟩
  | 24 => ⟨S4096x12288, .i32⟩
  | 25 => ⟨S4096x12288, .i32⟩
  | 26 => ⟨S4096x1024x12, .i32⟩
  | 27 => ⟨S12, .i32⟩
  | 28 => ⟨S_, .i32⟩
  | 29 => ⟨S_, .i32⟩
  | 30 => ⟨S_, .i1⟩
  | 31 => ⟨S_, .i32⟩
  | 32 => ⟨S12, .i32⟩
  | 33 => ⟨S12, .i1⟩
  | 34 => ⟨S12, .i1⟩
  | 35 => ⟨S12, .i1⟩
  | 36 => ⟨S_, .i32⟩
  | 37 => ⟨S_, .i32⟩
  | 38 => ⟨S12, .i32⟩
  | 39 => ⟨S12, .i32⟩
  | 40 => ⟨S12, .i32⟩
  | 41 => ⟨S_, .i32⟩
  | 42 => ⟨S12, .i32⟩
  | 43 => ⟨S12, .i32⟩
  | 44 => ⟨S_, .i32⟩
  | 45 => ⟨S12, .i32⟩
  | 46 => ⟨S12, .i32⟩
  | 47 => ⟨S_, .i32⟩
  | 48 => ⟨S12, .i32⟩
  | 49 => ⟨S12, .i1⟩
  | 50 => ⟨S12, .i32⟩
  | 51 => ⟨S_, .i32⟩
  | 52 => ⟨S_, .i32⟩
  | 53 => ⟨S_, .i32⟩
  | 54 => ⟨S_, .i32⟩
  | 55 => ⟨S12, .i32⟩
  | 56 => ⟨S12, .i32⟩
  | 57 => ⟨S_, .i32⟩
  | 58 => ⟨S12, .i32⟩
  | 59 => ⟨S12, .i32⟩
  | 60 => ⟨S12, .i32⟩
  | 61 => ⟨S12, .i32⟩
  | 62 => ⟨S_, .i32⟩
  | 63 => ⟨S12, .i32⟩
  | 64 => ⟨S12, .i1⟩
  | 65 => ⟨S12, .i32⟩
  | 66 => ⟨S_, .i32⟩
  | 67 => ⟨S_, .i32⟩
  | 68 => ⟨S12, .i32⟩
  | 69 => ⟨S12, .i32⟩
  | 70 => ⟨S_, .i32⟩
  | 71 => ⟨S12, .i32⟩
  | 72 => ⟨S12, .i32⟩
  | 73 => ⟨S12, .i32⟩
  | 74 => ⟨S12, .i32⟩
  | 75 => ⟨S_, .i32⟩
  | 76 => ⟨S12, .i32⟩
  | 77 => ⟨S12, .i1⟩
  | 78 => ⟨S12, .i32⟩
  | 79 => ⟨S_, .i32⟩
  | 80 => ⟨S_, .i32⟩
  | 81 => ⟨S12, .i32⟩
  | 82 => ⟨S12, .i32⟩
  | 83 => ⟨S_, .i32⟩
  | 84 => ⟨S12, .i32⟩
  | 85 => ⟨S12, .i32⟩
  | 86 => ⟨S12, .i32⟩
  | 87 => ⟨S12, .i32⟩
  | 88 => ⟨S_, .i32⟩
  | 89 => ⟨S12, .i32⟩
  | 90 => ⟨S12, .i1⟩
  | 91 => ⟨S12, .i32⟩
  | 92 => ⟨S_, .i32⟩
  | 93 => ⟨S_, .i32⟩
  | 94 => ⟨S12, .i32⟩
  | 95 => ⟨S12, .i32⟩
  | 96 => ⟨S_, .i32⟩
  | 97 => ⟨S12, .i32⟩
  | 98 => ⟨S12, .i32⟩
  | 99 => ⟨S12, .i32⟩
  | 100 => ⟨S12, .i32⟩
  | 101 => ⟨S_, .i32⟩
  | 102 => ⟨S12, .i32⟩
  | 103 => ⟨S12, .i1⟩
  | 104 => ⟨S12, .i32⟩
  | 105 => ⟨S_, .i32⟩
  | 106 => ⟨S_, .i32⟩
  | 107 => ⟨S12, .i32⟩
  | 108 => ⟨S12, .i32⟩
  | 109 => ⟨S_, .i32⟩
  | 110 => ⟨S12, .i32⟩
  | 111 => ⟨S12, .i32⟩
  | 112 => ⟨S12, .i32⟩
  | 113 => ⟨S12, .i32⟩
  | 114 => ⟨S_, .i32⟩
  | 115 => ⟨S12, .i32⟩
  | 116 => ⟨S12, .i1⟩
  | 117 => ⟨S12, .i32⟩
  | 118 => ⟨S_, .i32⟩
  | 119 => ⟨S_, .i32⟩
  | 120 => ⟨S12, .i32⟩
  | 121 => ⟨S12, .i32⟩
  | 122 => ⟨S1x1x12, .i32⟩
  | 123 => ⟨S4096x1024x12, .i32⟩
  | 124 => ⟨S4096x1024x12, .i32⟩
  | 125 => ⟨S_, .i32⟩
  | 126 => ⟨S4096x1024, .i32⟩
  | 127 => ⟨S1024, .i32⟩
  | _ => ⟨S4096x12288, .i32⟩

abbrev hbmTy0_1 (i : Nat) : BufTy := match i % 128 with
  | 0 => ⟨S1x1024, .i32⟩
  | 1 => ⟨S_, .i32⟩
  | 2 => ⟨S1x1024, .i32⟩
  | 3 => ⟨S1x1024, .i1⟩
  | 4 => ⟨S_, .i32⟩
  | 5 => ⟨S1x1024, .i32⟩
  | 6 => ⟨S1x1024, .i32⟩
  | 7 => ⟨S1x1024, .i32⟩
  | 8 => ⟨S_, .i32⟩
  | 9 => ⟨S4096x1024, .i32⟩
  | 10 => ⟨S4096x1024, .i1⟩
  | 11 => ⟨S_, .i32⟩
  | 12 => ⟨S4096x1024, .i32⟩
  | 13 => ⟨S4096x1024, .i32⟩
  | 14 => ⟨S4096x1024, .i32⟩
  | 15 => ⟨S4096x1024, .i32⟩
  | 16 => ⟨S4096x1024x1, .i32⟩
  | 17 => ⟨S4096x1024x1, .i32⟩
  | 18 => ⟨S4096x1024x2, .i32⟩
  | 19 => ⟨S4096x1024x16, .f32⟩
  | 20 => ⟨S_, .f32⟩
  | 21 => ⟨S4096x16, .f32⟩
  | 22 => ⟨S_, .f32⟩
  | 23 => ⟨S4096x16, .f32⟩
  | 24 => ⟨S4096x16, .f32⟩
  | _ => ⟨S4096x12288, .i32⟩

abbrev hbmTy (i : Nat) : BufTy := match i / 128 with
  | 0 => hbmTy0_0 i
  | 1 => hbmTy0_1 i
  | _ => ⟨S4096x12288, .i32⟩

abbrev bufTy : (tb : Table) → Fin (tcTables nBuf tb) → BufTy
  | .hbm, ⟨i, _⟩ => hbmTy i
  | _, _ => ⟨S4096x12288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call1_c : Ref sig .tc := ⟨.hbm, 3, rfl⟩
abbrev main_call1_v0 : Ref sig .tc := ⟨.hbm, 4, rfl⟩
abbrev main_call1_v1 : Ref sig .tc := ⟨.hbm, 5, rfl⟩
abbrev main_call1_c_0 : Ref sig .tc := ⟨.hbm, 6, rfl⟩
abbrev main_call1_v2 : Ref sig .tc := ⟨.hbm, 7, rfl⟩
abbrev main_call1_v3 : Ref sig .tc := ⟨.hbm, 8, rfl⟩
abbrev main_call1_v4 : Ref sig .tc := ⟨.hbm, 9, rfl⟩
abbrev main_call1_v5 : Ref sig .tc := ⟨.hbm, 10, rfl⟩
abbrev main_call1_c_1 : Ref sig .tc := ⟨.hbm, 11, rfl⟩
abbrev main_call1_c_2 : Ref sig .tc := ⟨.hbm, 12, rfl⟩
abbrev main_call1_v6 : Ref sig .tc := ⟨.hbm, 13, rfl⟩
abbrev main_call1_v7 : Ref sig .tc := ⟨.hbm, 14, rfl⟩
abbrev main_call1_v8 : Ref sig .tc := ⟨.hbm, 15, rfl⟩
abbrev main_call1_v9 : Ref sig .tc := ⟨.hbm, 16, rfl⟩
abbrev main_call1_v10 : Ref sig .tc := ⟨.hbm, 17, rfl⟩
abbrev main_call1_v11 : Ref sig .tc := ⟨.hbm, 18, rfl⟩
abbrev main_call1_c_3 : Ref sig .tc := ⟨.hbm, 19, rfl⟩
abbrev main_call1_v12 : Ref sig .tc := ⟨.hbm, 20, rfl⟩
abbrev main_call1_v13 : Ref sig .tc := ⟨.hbm, 21, rfl⟩
abbrev main_call1_v14 : Ref sig .tc := ⟨.hbm, 22, rfl⟩
abbrev main_call1_c_4 : Ref sig .tc := ⟨.hbm, 23, rfl⟩
abbrev main_call1_v15 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_c : Ref sig .tc := ⟨.hbm, 28, rfl⟩
abbrev main_c_0 : Ref sig .tc := ⟨.hbm, 29, rfl⟩
abbrev main_v4 : Ref sig .tc := ⟨.hbm, 30, rfl⟩
abbrev main_c_1 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_c_2 : Ref sig .tc := ⟨.hbm, 36, rfl⟩
abbrev main_c_3 : Ref sig .tc := ⟨.hbm, 37, rfl⟩
abbrev main_call2_v0 : Ref sig .tc := ⟨.hbm, 38, rfl⟩
abbrev main_call2_v1 : Ref sig .tc := ⟨.hbm, 39, rfl⟩
abbrev main_v9 : Ref sig .tc := ⟨.hbm, 40, rfl⟩
abbrev main_c_4 : Ref sig .tc := ⟨.hbm, 41, rfl⟩
abbrev main_v10 : Ref sig .tc := ⟨.hbm, 42, rfl⟩
abbrev main_v11 : Ref sig .tc := ⟨.hbm, 43, rfl⟩
abbrev main_c_5 : Ref sig .tc := ⟨.hbm, 44, rfl⟩
abbrev main_v12 : Ref sig .tc := ⟨.hbm, 45, rfl⟩
abbrev main_v13 : Ref sig .tc := ⟨.hbm, 46, rfl⟩
abbrev main_call3_c : Ref sig .tc := ⟨.hbm, 47, rfl⟩
abbrev main_call3_v0 : Ref sig .tc := ⟨.hbm, 48, rfl⟩
abbrev main_call3_v1 : Ref sig .tc := ⟨.hbm, 49, rfl⟩
abbrev main_v14 : Ref sig .tc := ⟨.hbm, 50, rfl⟩
abbrev main_c_6 : Ref sig .tc := ⟨.hbm, 51, rfl⟩
abbrev main_c_7 : Ref sig .tc := ⟨.hbm, 52, rfl⟩
abbrev main_v15 : Ref sig .tc := ⟨.hbm, 53, rfl⟩
abbrev main_c_8 : Ref sig .tc := ⟨.hbm, 54, rfl⟩
abbrev main_v16 : Ref sig .tc := ⟨.hbm, 55, rfl⟩
abbrev main_v17 : Ref sig .tc := ⟨.hbm, 56, rfl⟩
abbrev main_c_9 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_call4_c : Ref sig .tc := ⟨.hbm, 62, rfl⟩
abbrev main_call4_v0 : Ref sig .tc := ⟨.hbm, 63, rfl⟩
abbrev main_call4_v1 : Ref sig .tc := ⟨.hbm, 64, rfl⟩
abbrev main_v22 : Ref sig .tc := ⟨.hbm, 65, rfl⟩
abbrev main_v23 : Ref sig .tc := ⟨.hbm, 66, rfl⟩
abbrev main_c_10 : Ref sig .tc := ⟨.hbm, 67, rfl⟩
abbrev main_v24 : Ref sig .tc := ⟨.hbm, 68, rfl⟩
abbrev main_v25 : Ref sig .tc := ⟨.hbm, 69, rfl⟩
abbrev main_c_11 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_call5_c : Ref sig .tc := ⟨.hbm, 75, rfl⟩
abbrev main_call5_v0 : Ref sig .tc := ⟨.hbm, 76, rfl⟩
abbrev main_call5_v1 : Ref sig .tc := ⟨.hbm, 77, rfl⟩
abbrev main_v30 : Ref sig .tc := ⟨.hbm, 78, rfl⟩
abbrev main_v31 : Ref sig .tc := ⟨.hbm, 79, rfl⟩
abbrev main_c_12 : Ref sig .tc := ⟨.hbm, 80, rfl⟩
abbrev main_v32 : Ref sig .tc := ⟨.hbm, 81, rfl⟩
abbrev main_v33 : Ref sig .tc := ⟨.hbm, 82, rfl⟩
abbrev main_c_13 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_call6_c : Ref sig .tc := ⟨.hbm, 88, rfl⟩
abbrev main_call6_v0 : Ref sig .tc := ⟨.hbm, 89, rfl⟩
abbrev main_call6_v1 : Ref sig .tc := ⟨.hbm, 90, rfl⟩
abbrev main_v38 : Ref sig .tc := ⟨.hbm, 91, rfl⟩
abbrev main_v39 : Ref sig .tc := ⟨.hbm, 92, rfl⟩
abbrev main_c_14 : Ref sig .tc := ⟨.hbm, 93, rfl⟩
abbrev main_v40 : Ref sig .tc := ⟨.hbm, 94, rfl⟩
abbrev main_v41 : Ref sig .tc := ⟨.hbm, 95, rfl⟩
abbrev main_c_15 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_call7_c : Ref sig .tc := ⟨.hbm, 101, rfl⟩
abbrev main_call7_v0 : Ref sig .tc := ⟨.hbm, 102, rfl⟩
abbrev main_call7_v1 : Ref sig .tc := ⟨.hbm, 103, rfl⟩
abbrev main_v46 : Ref sig .tc := ⟨.hbm, 104, rfl⟩
abbrev main_v47 : Ref sig .tc := ⟨.hbm, 105, rfl⟩
abbrev main_c_16 : Ref sig .tc := ⟨.hbm, 106, rfl⟩
abbrev main_v48 : Ref sig .tc := ⟨.hbm, 107, rfl⟩
abbrev main_v49 : Ref sig .tc := ⟨.hbm, 108, rfl⟩
abbrev main_c_17 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_call8_c : Ref sig .tc := ⟨.hbm, 114, rfl⟩
abbrev main_call8_v0 : Ref sig .tc := ⟨.hbm, 115, rfl⟩
abbrev main_call8_v1 : Ref sig .tc := ⟨.hbm, 116, rfl⟩
abbrev main_v54 : Ref sig .tc := ⟨.hbm, 117, rfl⟩
abbrev main_v55 : Ref sig .tc := ⟨.hbm, 118, rfl⟩
abbrev main_c_18 : Ref sig .tc := ⟨.hbm, 119, rfl⟩
abbrev main_v56 : Ref sig .tc := ⟨.hbm, 120, rfl⟩
abbrev main_v57 : Ref sig .tc := ⟨.hbm, 121, rfl⟩
abbrev main_v58 : Ref sig .tc := ⟨.hbm, 122, rfl⟩
abbrev main_v59 : Ref sig .tc := ⟨.hbm, 123, rfl⟩
abbrev main_v60 : Ref sig .tc := ⟨.hbm, 124, rfl⟩
abbrev main_c_19 : Ref sig .tc := ⟨.hbm, 125, rfl⟩
abbrev main_v61 : Ref sig .tc := ⟨.hbm, 126, rfl⟩
abbrev main_v62 : Ref sig .tc := ⟨.hbm, 127, rfl⟩
abbrev main_v63 : Ref sig .tc := ⟨.hbm, 128, rfl⟩
abbrev main_c_20 : Ref sig .tc := ⟨.hbm, 129, rfl⟩
abbrev main_v64 : Ref sig .tc := ⟨.hbm, 130, rfl⟩
abbrev main_v65 : Ref sig .tc := ⟨.hbm, 131, rfl⟩
abbrev main_c_21 : Ref sig .tc := ⟨.hbm, 132, rfl⟩
abbrev main_v66 : Ref sig .tc := ⟨.hbm, 133, rfl⟩
abbrev main_v67 : Ref sig .tc := ⟨.hbm, 134, rfl⟩
abbrev main_v68 : Ref sig .tc := ⟨.hbm, 135, rfl⟩
abbrev main_c_22 : Ref sig .tc := ⟨.hbm, 136, rfl⟩
abbrev main_v69 : Ref sig .tc := ⟨.hbm, 137, rfl⟩
abbrev main_v70 : Ref sig .tc := ⟨.hbm, 138, rfl⟩
abbrev main_c_23 : Ref sig .tc := ⟨.hbm, 139, rfl⟩
abbrev main_v71 : Ref sig .tc := ⟨.hbm, 140, rfl⟩
abbrev main_v72 : Ref sig .tc := ⟨.hbm, 141, rfl⟩
abbrev main_v73 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_cst : Ref sig .tc := ⟨.hbm, 148, rfl⟩
abbrev main_v79 : Ref sig .tc := ⟨.hbm, 149, rfl⟩
abbrev main_cst_24 : Ref sig .tc := ⟨.hbm, 150, rfl⟩
abbrev main_v80 : Ref sig .tc := ⟨.hbm, 151, rfl⟩
abbrev main_v81 : Ref sig .tc := ⟨.hbm, 152, rfl⟩

abbrev nD : Nat := 1
abbrev τ : Topo := Topo.v7x

variable {F : FTy → Type} [FloatOps F]
-- ==== Proof.BatchGather.lean ====
/-
  Several indirect gathers outstanding on one DMA semaphore.

  The kernel starts eight indirect gathers of 128 rows each on one semaphore and waits for them afterwards, eight times
  the credit of 128 rows. No wait but the last tells anything about any one of the gathers, so the eight are treated as
  ONE batch of 1024 row transfers of equal credit (`Transfers.Batch`): a gather of `o` rows issues the batch's next `o`
  transfers (`wp_gatherBatch`), and the last wait hands back all 1024 deliveries.

  What a gather lends to its rows is kept in a pool indexed like the batch's transfers: `R t` is what row transfer `t`
  needs (its destination row, its list entry, a share of the source), and the pool `bigSep (pending j) R` loses the rows
  that are issued.
-/
module

public import Idealize.ShloMosaic.Lib.Batch
public import Idealize.ShloMosaic.Lib.SparseCore.Stream

@[expose] public section

noncomputable section

namespace Cert.Proof.BatchGather

open Idealize.ShloMosaic
open Idealize.SL Idealize.SL.RA
open Idealize.SL.BI (sProp Storable bigSep)
open scoped Idealize.SL.BI
open Idealize.SL.BI.BIBase Idealize.SL.BI.Laws Idealize.SL.Sem Idealize.SL.ProofMode
open Idealize.ShloMosaic.Transfers (pending Batch batchBody)

section Pool

variable {M : Type} [URA M] {n : ℕ}

/-- Transfer number `j + i` of the batch, for `i` among the `o` transfers issued together from number `j` on. -/
def nth {j o : ℕ} (h : j + o ≤ n) (i : Fin o) : Fin n := ⟨j + i.val, by omega⟩

/-- What is pending from `j` on is the next `o` and what is pending from `j + o` on. -/
theorem pool_split {j o : ℕ} (h : j + o ≤ n) (Φ : Fin n → sProp M) :
    bigSep (pending j) Φ = iprop((bigSep Finset.univ fun i : Fin o => Φ (nth h i)) ∗ bigSep (pending (j + o)) Φ) := by
  let e : Fin o ↪ Fin n := ⟨nth h, fun a b hab => Fin.ext (by have := congrArg Fin.val hab; simp only [nth] at this; omega)⟩
  have hset : (pending j : Finset (Fin n)) = (Finset.univ.map e) ∪ pending (j + o) := by
    ext t
    simp only [pending, Finset.mem_filter, Finset.mem_univ, true_and, Finset.mem_union, Finset.mem_map]
    constructor
    · intro ht
      by_cases h' : j + o ≤ t.val
      · exact .inr h'
      · exact .inl ⟨⟨t.val - j, by omega⟩, Fin.ext (show j + (t.val - j) = t.val by omega)⟩
    · rintro (⟨i, rfl⟩ | h')
      · exact Nat.le_add_right _ _
      · omega
  have hdis : Disjoint (Finset.univ.map e) (pending (j + o) : Finset (Fin n)) := by
    refine Finset.disjoint_left.mpr fun t h₁ h₂ => ?_
    obtain ⟨i, -, rfl⟩ := Finset.mem_map.mp h₁
    have h₃ : j + o ≤ j + i.val := (Finset.mem_filter.mp h₂).2
    have := i.isLt
    omega
  rw [hset, BI.bigSep_union hdis, BI.bigSep_map]; rfl

/-- Nothing is pending beyond the last transfer. -/
theorem pool_end (Φ : Fin n → sProp M) : bigSep (pending n) Φ = iprop(emp) := by
  have : (pending n : Finset (Fin n)) = ∅ := by
    ext t; simp only [pending, Finset.mem_filter, Finset.mem_univ, true_and, Finset.notMem_empty, iff_false]
    have := t.isLt; omega
  rw [this, BI.bigSep_empty]; rfl

end Pool

section Rule

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-- Entry `k` of the list a gather reads, as an index of the list's shape. -/
def entryAt {o : ℕ} (hn : si.numel = o) (k : Fin o) : si.Idx := si.rowMajor.symm (k.cast hn.symm)

/-- An indirect gather of `o` rows whose transfers are the next `o` of a batch. The tile holds the batch with `j`
    transfers issued and none waited for, and the pool of what the unissued transfers need; each of the `o` rows of the
    pool contains the row's destination outright, the row's list entry and some share of the source (`hR`), the entries
    name rows of the source (`hin`), and the row written with the source row its entry names, the entry and the share
    entail the transfer's delivery (`hD`). The tile goes on with `j + o` transfers issued and the rest of the pool. -/
theorem wp_gatherBatch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {qo : PosShare TreeShare} {qk : Fin (s.size hg.axis') → PosShare TreeShare}
    {fs : Buf (Elt F) (src.view.loc c)} {fd : Buf (Elt F) (dst.view.loc c)} {fo : Buf (Elt F) (offs.view.loc c)}
    (ι : Ix) (N : ℕ) (hN : ∀ i, (dst.slice (s.rowRect hg.axis' i) (s.stride_rowRect hg.axis' i)).view.dmaCredit = N)
    (hin : ∀ x, (offs.view.read (Elt F) fo x).toNat < s₀.size hg.axis)
    {n : ℕ} {R D : Fin n → sProp 𝕄} {j : ℕ} (hj : j + s.size hg.axis' ≤ n)
    (hR : ∀ i, R (nth hj i) ⊢ iprop((dst.view.loc c ↦[(dst.view.slice (s.rowRect hg.axis' i)).set]{fullShare} fd)
        ∗ (offs.view.loc c ↦[{offs.view.emb (entryAt hn i)}]{qo} fo) ∗ (src.view.loc c ↦[src.view.set]{qk i} fs)))
    (hD : ∀ i, iprop((dst.view.loc c ↦[(dst.view.slice (s.rowRect hg.axis' i)).set]{fullShare}
          ((dst.view.slice (s.rowRect hg.axis' i)).write (Elt F) fd
            (fun x => src.view.read (Elt F) fs (hg.rowIdx (SparseCore.rows (offs.view.read (Elt F) fo) hn hin i) x)) Finset.univ))
        ∗ (offs.view.loc c ↦[{offs.view.emb (entryAt hn i)}]{qo} fo) ∗ (src.view.loc c ↦[src.view.set]{qk i} fs))
      ⊢ D (nth hj i)) :
    iprop(bigSep (pending j) R ∗ Batch EC c (.dma sem) ι N D j 0)
      ⊢ iprop((iprop(bigSep (pending (j + s.size hg.axis')) R ∗ Batch EC c (.dma sem) ι N D (j + s.size hg.axis') 0)
              -∗ wp frame (wpE defs 𝒱 c bd) Set.univ (k ⟨⟩) Q)
          -∗ wp frame (wpE defs 𝒱 c bd) Set.univ (SparseCore.enqueueIndirectGather hp src dst hg offs hn sem hsrc he hsp hr >>= k) Q) := by
  rw [SparseCore.enqueueIndirectGather_bind]
  let S : Stream nD τ sig (Elt F) :=
    Stream.issued c offs.view hn sem (fun i w => (SparseCore.rowOf (s₀.size hg.axis) w).map (SparseCore.gatherRow c src dst hg sem hsrc he hsp hr i)) 0
  let rd : Fin (s.size hg.axis') → RowDma τ sig (Elt F) c.2 sem := fun i =>
    SparseCore.gatherRow c src dst hg sem hsrc he hsp hr i (SparseCore.rows (offs.view.read (Elt F) fo) hn hin i)
  have hA : S.RowsAgree := by
    intro i x x' ρ ρ' h h'
    obtain ⟨_, _, rfl⟩ := Option.map_eq_some_iff.mp h
    obtain ⟨_, _, rfl⟩ := Option.map_eq_some_iff.mp h'
    rfl
  have hrd : ∀ i, S.row i (S.word fo i) = some (rd i) := fun i => by
    change (SparseCore.rowOf (s₀.size hg.axis) (offs.view.read (Elt F) fo (S.entry i))).map _ = _
    rw [SparseCore.rowOf_of_lt (hin _)]; rfl
  have htot : ∑ i, (rd i).dst.view.dmaCredit = s.size hg.axis' * N := by
    rw [Finset.sum_congr rfl (fun i _ => hN i), Finset.sum_const, Finset.card_univ, Fintype.card_fin, smul_eq_mul]
  unfold Batch
  iintro ⟨Hpool, ⟨%γ, %γ₀, %κ, #Hinv, Htok, H0, Hcred⟩⟩ Hk
  ihave Hp := (Entails.of_eq (pool_split hj R)) $$ Hpool
  icases Hp with ⟨Hnow, Hlater⟩
  ihave Ht := (Entails.of_eq (pool_split hj (fun t => count EC (γ t) 0))) $$ Htok
  icases Ht with ⟨Htnow, Htlater⟩
  iapply (wp_enqueueIndirectDma 𝒱 c bd Set.univ (qo := qo) (fo := fo) (rd := rd) ι (s.size hg.axis' * N) hA hrd htot) $$ [Hnow Htnow]
  · have hone : ∀ i, iprop(inv κ (batchBody EC (c, SemLoc.dma sem) N D γ γ₀) ∗ (R (nth hj i) ∗ count EC (γ (nth hj i)) 0))
        ⊢ iprop(S.heldEntry qo fo i ∗ (S.heldEntry qo fo i -∗ rowRes c (rd i))) := fun i => by
      iintro ⟨#Hinv, Hr, Ht⟩
      ihave Hr := (hR i) $$ Hr
      icases Hr with ⟨Hd, He, Hs⟩
      isplitl [He]; · iexact He
      iintro He
      unfold rowRes
      iexists qk i, fs, iprop((dst.view.loc c ↦[(dst.view.slice (s.rowRect hg.axis' i)).set]{fullShare}
          ((dst.view.slice (s.rowRect hg.axis' i)).write (Elt F) fd
            (fun x => src.view.read (Elt F) fs (hg.rowIdx (SparseCore.rows (offs.view.read (Elt F) fo) hn hin i) x)) Finset.univ))
        ∗ S.heldEntry qo fo i)
      isplitl [Hs]; · iexact Hs
      isplitl [Hd He]
      · iapply writeUpdate_frame
        isplitl [Hd]
        · iapply (pointsTo_writeUpdate c (v := dst.view.slice (s.rowRect hg.axis' i)) subset_rfl) $$ Hd
        · iexact He
      · rw [show (rd i).dst.view.amount (.dma sem) = N from hN i]
        iapply (Transfers.batch_creditUpdate EC (nth hj i) (sep_assoc.1.trans (hD i)))
        isplitr; · iexact Hinv
        iexact Ht
    unfold Stream.res
    ihave H := Transfers.bigSep_sep_in _ _ _ $$ [Hnow Htnow]; · isplitl [Hnow] <;> iassumption
    iapply (Transfers.bigSep_mono_pers Finset.univ _ _ _ fun i _ => hone i)
    isplitr; · iexact Hinv
    iexact H
  iintro Hcred'
  iapply Hk
  isplitl [Hlater]; · iexact Hlater
  iexists γ, γ₀, κ
  isplitr; · iexact Hinv
  isplitl [Htlater]; · iexact Htlater
  isplitl [H0]; · iexact H0
  rw [Nat.sub_zero, Nat.sub_zero, Nat.add_mul, ← tallyAt_add]
  icombine Hcred Hcred' as H
  iexact H

end Rule

end Cert.Proof.BatchGather

end
-- ==== Proof.KernelIdeal.Values.lean ====
/-
  What the kernel computes, as functions of one row `xr` of `x`, of the permuted mapping `pv` and of the table `tab`: the
  table row number `gid` of neuron `n`, the gathered rows `rowVal`, their running sum `sumTo` in the order the kernel adds
  them, and the row of the result.
-/
module

public import Idealize.ShloMosaic.Lib.Pipeline.Value
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen
open Idealize.ShloMosaic

variable {F : FTy → Type}

/-- Position `n` of a vector of 12288 elements (taken modulo its length). -/
def i1 (n : ℕ) : S12288.Idx := fun | 0 => ⟨n % 12288, Nat.mod_lt _ (by decide)⟩

/-- Lane `l` of a vector of 16. -/
def iL (l : Fin 16) : S16.Idx := fun | 0 => l

/-- Position `(r, l)` of the gathered rows (`r` modulo their number). -/
def iG (r : ℕ) (l : Fin 16) : S1024x16.Idx := fun | 0 => ⟨r % 1024, Nat.mod_lt _ (by decide)⟩ | 1 => l

/-- Position `(r, l)` of the table (`r` modulo its number of rows). -/
def iT (r : ℕ) (l : Fin 16) : S4194304x16.Idx := fun | 0 => ⟨r % 4194304, Nat.mod_lt _ (by decide)⟩ | 1 => l

/-- Position `(b, n)` of `x` (both modulo their extents). -/
def iX (b n : ℕ) : S4096x12288.Idx := fun | 0 => ⟨b % 4096, Nat.mod_lt _ (by decide)⟩ | 1 => ⟨n % 12288, Nat.mod_lt _ (by decide)⟩

theorem i1_val (x : S12288.Idx) : i1 (x 0).val = x := by
  funext a; match a with
  | 0 => exact Fin.ext (Nat.mod_eq_of_lt (x 0).isLt)

/-- Address bit `j` of neuron `n`: the row of `x` at the permuted mapping's entry `1024 j + n`. -/
def bit (xr : S12288.Idx → BitVec 32) (pv : S12288.Idx → BitVec 32) (n j : ℕ) : BitVec 32 := xr (i1 (pv (i1 (1024 * j + n))).toNat)

/-- The address of neuron `n`: its twelve bits, bit `j` at weight `2 ^ j`. -/
def key (xr : S12288.Idx → BitVec 32) (pv : S12288.Idx → BitVec 32) (n : ℕ) : BitVec 32 :=
  (List.range 12).foldl (fun acc j => acc ||| bit xr pv n j <<< j) 0#32

/-- The table row neuron `n` reads: its address in its own block of 4096 rows. -/
def gid (xr : S12288.Idx → BitVec 32) (pv : S12288.Idx → BitVec 32) (n : ℕ) : BitVec 32 := key xr pv n + BitVec.ofNat 32 (4096 * n)

/-- The row numbers as the kernel lays them out, 128 to a line. -/
def gidAt (xr : S12288.Idx → BitVec 32) (pv : S12288.Idx → BitVec 32) : S8x128.Idx → BitVec 32 := fun y => gid xr pv (128 * (y 0).val + (y 1).val)

/-- The gathered rows: row `n` the table's row `gid n`. -/
def rowVal (xr : S12288.Idx → BitVec 32) (pv : S12288.Idx → BitVec 32) (tab : S4194304x16.Idx → F .f32) : S1024x16.Idx → F .f32 :=
  fun y => tab (iT (gid xr pv (y 0).val).toNat (y 1))

variable [FloatOps F] [Named F]

/-- The sum of the first `n` rows of `G`, added one after another to zero. -/
def sumTo (G : S1024x16.Idx → F .f32) : ℕ → FVec F S16 .f32
  | 0 => k0_pay2
  | n + 1 => addf (sumTo G n) (fun x => G (iG n (x 0)))

/-- The mean's lane `l`: the sum of all rows of `G` times the printed constant. -/
def meanOf (G : S1024x16.Idx → F .f32) (l : Fin 16) : F .f32 := k0_pay4 (sumTo G 1024) (iL l)

/-- One row of the result, of the row `b` of `x`. -/
def outVal (xs : S4096x12288.Idx → BitVec 32) (pv : S12288.Idx → BitVec 32) (tab : S4194304x16.Idx → F .f32) : S4096x16.Idx → F .f32 :=
  fun y => meanOf (rowVal (fun n => xs (iX (y 0).val (n 0).val)) pv tab) (y 1)

/-! ## The loops' trips -/

theorem t1_trips : k0_t1_loop.trips = 128 := by decide
theorem t2_trips : k0_t2_loop.trips = 64 := by decide
theorem t3_trips : k0_t3_loop.trips = 256 := by decide

/-! ## The lanes of a block's row numbers -/

omit [FloatOps F] [Named F] in
theorem iv_ofNat (k : Fin k0_t2_loop.trips) : Scf.iv 0#32 1#32 k = BitVec.ofNat 32 k.val := by
  revert k; decide +kernel

/-- A left shift by less than the word's width, at one lane. -/
theorem shl_lane (v : S16.Idx → BitVec 32) (j : ℕ) (hj : j < 32) (x : S16.Idx) : shli v (broadcast S16 (BitVec.ofNat 32 j)) x = v x <<< j := by
  have h : (BitVec.ofNat 32 j).toNat = j := by rw [BitVec.toNat_ofNat]; exact Nat.mod_eq_of_lt (lt_trans hj (by decide))
  show IntOp.shli .vector (v x) (BitVec.ofNat 32 j) = _
  unfold IntOp.shli
  rw [h, if_pos hj, BitVec.shiftLeft_eq', h]

/-- What the kernel stores for block `k`: at each lane the row number of neuron `16 k + lane`. -/
theorem pay_lane (xr pv : S12288.Idx → BitVec 32) (k : Fin k0_t2_loop.trips) (x : S16.Idx) :
    let b : ℕ → S16.Idx → BitVec 32 := fun j x => bit xr pv (16 * k.val + (x 0).val) j
    k0_pay7 (F := F) k0_pay1 (Scf.iv 0#32 1#32 k) (k0_pay6 (F := F) (k0_pay5 (F := F) (b 0) (b 1) (b 2) (b 3)) (b 4) 4#32 (b 5) (b 6) (b 7) (b 8)) (b 9) 9#32 (b 10) (b 11) x
      = gid xr pv (16 * k.val + (x 0).val) := by
  intro b
  have ha : ∀ (u v : S16.Idx → BitVec 32), addi u v x = u x + v x := fun _ _ => rfl
  have hm : ∀ (u v : S16.Idx → BitVec 32), muli u v x = u x * v x := fun _ _ => rfl
  have ho : ∀ (u v : S16.Idx → BitVec 32), ori u v x = u x ||| v x := fun _ _ => rfl
  have hb : ∀ w : BitVec 32, broadcast S16 w x = w := fun _ => rfl
  have hs : ∀ (v : S16.Idx → BitVec 32) (j : ℕ), j < 32 → shli v (broadcast S16 (BitVec.ofNat 32 j)) x = v x <<< j := fun v j hj => shl_lane v j hj x
  have hi : iota .scVector S16 32 [0] iota_S16_d0_w32_scVector x = BitVec.ofNat 32 (x 0).val := by
    show BitVec.ofNat 32 (0 * _ + (x 0).val) = _
    rw [Nat.zero_mul, Nat.zero_add]
  have hw : BitVec.ofNat 32 (x 0).val * 4096#32 + BitVec.ofNat 32 k.val * 65536#32 = BitVec.ofNat 32 (4096 * (16 * k.val + (x 0).val)) := by
    apply BitVec.eq_of_toNat_eq
    simp only [BitVec.toNat_add, BitVec.toNat_mul, BitVec.toNat_ofNat]
    omega
  have hsc : Scalar.muli (BitVec.ofNat 32 k.val) 65536#32 = BitVec.ofNat 32 k.val * 65536#32 := rfl
  unfold k0_pay7 k0_pay6 k0_pay5 k0_pay1 gid key
  simp only [ha, hm, ho, hb, hi, iv_ofNat, hsc]
  rw [hs _ 0 (by decide), hs _ 1 (by decide), hs _ 2 (by decide), hs _ 3 (by decide), hs _ 4 (by decide), hs _ 5 (by decide), hs _ 6 (by decide),
    hs _ 7 (by decide), hs _ 8 (by decide), hs _ 9 (by decide), hs _ 10 (by decide), hs _ 11 (by decide), BitVec.add_assoc, hw]
  rfl

end Cert.Proof.KernelIdeal

end
-- ==== Proof.KernelIdeal.Setup.lean ====
/-
  The program as the launch theorem sees it, the ghost state, the threads, and what the proof asks of the inputs.
-/
module

public import proofs.«01_k».proof.Proof.KernelIdeal.Values
public import proofs.«01_k».proof.Proof.BatchGather
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The subcore at coordinates `L` -/

abbrev cV (L : grid0.Coords) : Fin τ.nSC := (L 0).castLE hcore0
abbrev jV (L : grid0.Coords) : Fin τ.nSub := (L 1).castLE hsub0

/-- The thread of the subcore at coordinates `L` of device `d`. -/
abbrev tV (d : Dev nD) (L : grid0.Coords) : Thread nD τ := V d (cV L) (jV L)

/-! ## What the proof asks of the inputs -/

/-- Every entry of the permuted mapping names an element of a row of `x`. -/
def PermOK (pv : S12288.Idx → BitVec 32) : Prop := ∀ n, (pv n).toNat < 12288

/-- Every element of `x` is a bit. -/
def BitsOK (xs : S4096x12288.Idx → BitVec 32) : Prop := ∀ y, (xs y).toNat < 2

end Cert.Proof.KernelIdeal

end
-- ==== Proof.KernelIdeal.Block.lean ====
/-
  The inner loop of one row: 64 blocks of 16 neurons, each block's 16 row numbers computed from twelve gathers of the
  row of `x` and stored into the list of row numbers.
-/
module

public import proofs.«01_k».proof.Proof.KernelIdeal.Setup

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ
local notation "m6" => (Memref.whole Cert.KernelIdeal.cc0_scratch0 : Memref Cert.KernelIdeal.sig Kind.scVector Space.vmem Cert.KernelIdeal.S12288 EltTy.i32)
local notation "m7" => (Memref.whole Cert.KernelIdeal.cc0_scratch1 : Memref Cert.KernelIdeal.sig Kind.scVector Space.vmem Cert.KernelIdeal.S12288 EltTy.i32)
local notation "m8" => (Memref.whole Cert.KernelIdeal.cc0_scratch2 : Memref Cert.KernelIdeal.sig Kind.scVector Space.vmem Cert.KernelIdeal.S8x128 EltTy.i32)

variable (d : Dev nD) (L : grid0.Coords)

/-- The permuted mapping and the row of `x` in the subcore's memory. -/
def heldPX (pv xr : S12288.Idx → BitVec 32) : sProp 𝕄 :=
  iprop(((m6).view.loc (tV d L) ↦{fullShare} (pv : Buf (Elt F) ((m6).view.loc (tV d L)))) ∗ ((m7).view.loc (tV d L) ↦{fullShare} (xr : Buf (Elt F) ((m7).view.loc (tV d L)))))

/-- One address bit of sixteen neurons: the load of sixteen entries of the permuted mapping, their check, the gather of
    the row of `x` at them. -/
theorem wp_bit {α : Type} {Q : α → sProp 𝕄} {pv xr : S12288.Idx → BitVec 32} (hpv : PermOK pv) (j : ℕ) (k : Fin k0_t2_loop.trips)
    {off : Fin 1 → ℕ} (hoff : off = ![16 * k.val + 1024 * j]) (hj : j < 12)
    {inb : ∀ a, off a + S16.size a ≤ S12288.size a} {h6 : (m6).view.LoadsAt (Rect.unit (s := S12288) off S16.size inb).toLoadRect}
    {chk : IVec S16 32 → Prop} {dec : ∀ v, Decidable (chk v)} (hchk : ∀ v : IVec S16 32, (∀ x, (v x).toNat < 12288) → chk v)
    {hidx : ∀ v : IVec S16 32, chk v → ∀ a x, ((![v] : Fin 1 → IVec S16 32) a x).toNat < S12288.size a} {h7 : (m7).view.Loads}
    {kk : Vec F S16 .i32 → Prog (TpuEff nD τ sig (Elt F) Λ₀ (tV d L).2) α} :
    (heldPX (F := F) d L pv xr)
      ⊢ iprop((heldPX (F := F) d L pv xr -∗ wp frame (wpE (defs₀ (F := F)) 𝒱₀ (tV d L) none) Set.univ (kk fun x => bit xr pv (16 * k.val + (x 0).val) j) Q)
        -∗ wp frame (wpE (defs₀ (F := F)) 𝒱₀ (tV d L) none) Set.univ
            (.op (.load m6 (Rect.unit (s := S12288) off S16.size inb).toLoadRect h6) fun (v : Vec F S16 .i32) => .op (.assume (chk v) (dec v)) fun hw =>
              SparseCore.vectorLoadIdx m7 ![v] (hidx v hw.down) h7 >>= kk) Q) := by
  subst hoff
  unfold heldPX
  iintro ⟨H6, H7⟩ Hk
  iapply (wp_load 𝒱₀ (tV d L) none Set.univ (m := m6) (S := Finset.univ) (Finset.subset_univ _)) $$ H6
  iintro H6
  have hx : ∀ x : S16.Idx, (x 0).val < 16 := fun x => (x 0).isLt
  have hk : k.val < 64 := t2_trips ▸ k.isLt
  have hv : ∀ x : S16.Idx, (m6).view.readAt (Elt F) (Rect.unit (s := S12288) ![16 * k.val + 1024 * j] S16.size inb).toLoadRect pv x
      = pv (i1 (1024 * j + (16 * k.val + (x 0).val))) := by
    intro x
    show pv _ = pv _
    congr 1
    funext a
    match a with
    | 0 =>
      refine Fin.ext ?_
      show 16 * k.val + 1024 * j + 1 * (x 0).val = (1024 * j + (16 * k.val + (x 0).val)) % 12288
      have := hx x
      omega
  have hlt : ∀ x : S16.Idx, ((m6).view.readAt (Elt F) (Rect.unit (s := S12288) ![16 * k.val + 1024 * j] S16.size inb).toLoadRect pv x : BitVec 32).toNat < 12288 :=
    fun x => by rw [hv]; exact hpv _
  rw [wp_assume_of _ _ _ _ (hchk _ hlt)]
  have hloc : ((m7).view.loc (tV d L) ↦{fullShare} (xr : Buf (Elt F) ((m7).view.loc (tV d L))) : sProp 𝕄)
      = (((m7).access (.whole S12288)).loc (tV d L) ↦{fullShare} (xr : Buf (Elt F) ((m7).view.loc (tV d L)))) := rfl
  ihave H7 := (Entails.of_eq hloc) $$ H7
  iapply (SparseCore.wp_vectorLoadIdx 𝒱₀ (tV d L) none Set.univ (base := m7) (S := Finset.univ) (q := fullShare) (Finset.subset_univ _)) $$ H7
  iintro H7
  ihave H7 := (Entails.of_eq hloc.symm) $$ H7
  have hr : (loadIdx (F := F) (((m7).access (.whole S12288)).read (Elt F) xr)
      ![(m6).view.readAt (Elt F) (Rect.unit (s := S12288) ![16 * k.val + 1024 * j] S16.size inb).toLoadRect pv]
      (hidx _ (hchk _ hlt)) : Vec F S16 .i32) = fun x => bit xr pv (16 * k.val + (x 0).val) j := by
    funext x
    unfold bit
    rw [← hv x]
    show xr _ = xr _
    congr 1
    funext a
    match a with
    | 0 =>
      refine Fin.ext ?_
      show 0 + 1 * BitVec.toNat ((m6).view.readAt (Elt F) (Rect.unit (s := S12288) ![16 * k.val + 1024 * j] S16.size inb).toLoadRect pv x : BitVec 32)
        = BitVec.toNat ((m6).view.readAt (Elt F) (Rect.unit (s := S12288) ![16 * k.val + 1024 * j] S16.size inb).toLoadRect pv x : BitVec 32) % 12288
      rw [Nat.mod_eq_of_lt (hlt x)]
      omega
  iapply (Entails.of_eq (congrArg (fun v => wp Idealize.ShloMosaic.frame (wpE (defs₀ (F := F)) 𝒱₀ (tV d L) none) Set.univ (kk v) Q) hr.symm))
  iapply Hk
  isplitl [H6] <;> iassumption

/-! ## The three parts of a block -/

local notation "xW" => (Memref.whole Cert.KernelIdeal.main_arg0_scv : Memref Cert.KernelIdeal.sig Kind.scVector Space.hbm Cert.KernelIdeal.S4096x12288 EltTy.i32)
local notation "pW" => (Memref.whole Cert.KernelIdeal.main_v2_scv : Memref Cert.KernelIdeal.sig Kind.scVector Space.hbm Cert.KernelIdeal.S12288 EltTy.i32)
local notation "tW" => (Memref.whole Cert.KernelIdeal.main_v3_scv : Memref Cert.KernelIdeal.sig Kind.scVector Space.hbm Cert.KernelIdeal.S4194304x16 EltTy.f32)
local notation "oW" => (Memref.whole Cert.KernelIdeal.main_v4_scv : Memref Cert.KernelIdeal.sig Kind.scVector Space.hbm Cert.KernelIdeal.S4096x16 EltTy.f32)
local notation "m9" => (Memref.whole Cert.KernelIdeal.cc0_scratch3 : Memref Cert.KernelIdeal.sig Kind.scVector Space.vmem Cert.KernelIdeal.S1024x16 EltTy.f32)
local notation "m10" => (Memref.whole Cert.KernelIdeal.cc0_scratch4 : Memref Cert.KernelIdeal.sig Kind.scVector Space.vmem Cert.KernelIdeal.S128x16 EltTy.f32)

variable (pv xr : S12288.Idx → BitVec 32) (k : Fin k0_t2_loop.trips)

/-- Bit `j` of the block's sixteen neurons. -/
abbrev bits (j : ℕ) : Vec F S16 .i32 := fun x => bit xr pv (16 * k.val + (x 0).val) j

omit [FloatOps F] [Named F] in
theorem load6 {off : Fin 1 → ℕ} (inb : ∀ a, off a + S16.size a ≤ S12288.size a) : (m6).view.LoadsAt (Rect.unit (s := S12288) off S16.size inb).toLoadRect :=
  View.loadsAt_vmem h_S16
theorem load7 : (m7).view.Loads := View.loads_vmem h_S12288

/-- The checks' form: the words of one index vector name elements of a row of `x`. -/
theorem chk_of {v : IVec S16 32} (h : ∀ x, (v x).toNat < 12288) : ∀ a x, ((![v] : Fin 1 → IVec S16 32) a x).toNat < S12288.size a :=
  fun a x => by match a with | 0 => exact h x

/-- Bits 0 to 4 of a block. -/
theorem wp_part1 (hpv : PermOK pv) :
    (heldPX (F := F) d L pv xr) ⊢ wp frame (wpE (defs₀ (F := F)) 𝒱₀ (tV d L) none) Set.univ
      (k0_part1 (F := F) L xW (Memref.isWhole_whole _) pW (Memref.isWhole_whole _) tW (Memref.isWhole_whole _) oW (Memref.isWhole_whole _)
        m6 (Memref.isWhole_whole _) m7 (Memref.isWhole_whole _) m8 (Memref.isWhole_whole _) m9 (Memref.isWhole_whole _) m10 (Memref.isWhole_whole _)
        cc0_scratch5 cc0_scoped0 cc0_scoped1 cc0_scoped2 0#32 1#32 k)
      fun r => iprop(⌜r = ⟨Scf.iv 0#32 1#32 k, k0_pay5 (F := F) (bits (F := F) pv xr k 0) (bits (F := F) pv xr k 1) (bits (F := F) pv xr k 2) (bits (F := F) pv xr k 3), (bits (F := F) pv xr k 4), 4#32⟩⌝ ∗ heldPX (F := F) d L pv xr) := by
  rw [k0_part1_eq_skeleton]; unfold k0_part1_skel
  iintro H
  iapply (wp_bit (F := F) d L hpv 0 k (k0_off2_eq k) (by decide) (inb := k0_off2_inb k) (chk := k0_chk1) (fun _ => chk_of) (hidx := k0_idx1_inb) (h6 := load6 _) (h7 := load7)) $$ H; iintro H
  iapply (wp_bit (F := F) d L hpv 1 k (k0_off3_eq k) (by decide) (inb := k0_off3_inb k) (chk := k0_chk2) (fun _ => chk_of) (hidx := k0_idx2_inb) (h6 := load6 _) (h7 := load7)) $$ H; iintro H
  iapply (wp_bit (F := F) d L hpv 2 k (k0_off4_eq k) (by decide) (inb := k0_off4_inb k) (chk := k0_chk3) (fun _ => chk_of) (hidx := k0_idx3_inb) (h6 := load6 _) (h7 := load7)) $$ H; iintro H
  iapply (wp_bit (F := F) d L hpv 3 k (k0_off5_eq k) (by decide) (inb := k0_off5_inb k) (chk := k0_chk4) (fun _ => chk_of) (hidx := k0_idx4_inb) (h6 := load6 _) (h7 := load7)) $$ H; iintro H
  iapply (wp_bit (F := F) d L hpv 4 k (k0_off6_eq k) (by decide) (inb := k0_off6_inb k) (chk := k0_chk5) (fun _ => chk_of) (hidx := k0_idx5_inb) (h6 := load6 _) (h7 := load7)) $$ H; iintro H
  sl_step
  isplitr; · ipureintro; rfl
  iexact H

/-- Bits 5 to 9 of a block. -/
theorem wp_part2 (hpv : PermOK pv) (arg13 : BitVec 32) (v112 : IVec S16 32) :
    (heldPX (F := F) d L pv xr) ⊢ wp frame (wpE (defs₀ (F := F)) 𝒱₀ (tV d L) none) Set.univ
      (k0_part2 (F := F) L xW (Memref.isWhole_whole _) pW (Memref.isWhole_whole _) tW (Memref.isWhole_whole _) oW (Memref.isWhole_whole _)
        m6 (Memref.isWhole_whole _) m7 (Memref.isWhole_whole _) m8 (Memref.isWhole_whole _) m9 (Memref.isWhole_whole _) m10 (Memref.isWhole_whole _)
        cc0_scratch5 cc0_scoped0 cc0_scoped1 cc0_scoped2 k arg13 v112 (bits (F := F) pv xr k 4) 4#32)
      fun r => iprop(⌜r = ⟨k0_pay6 (F := F) v112 (bits (F := F) pv xr k 4) 4#32 (bits (F := F) pv xr k 5) (bits (F := F) pv xr k 6) (bits (F := F) pv xr k 7) (bits (F := F) pv xr k 8), (bits (F := F) pv xr k 9), 9#32⟩⌝ ∗ heldPX (F := F) d L pv xr) := by
  rw [k0_part2_eq_skeleton]; unfold k0_part2_skel
  iintro H
  iapply (wp_bit (F := F) d L hpv 5 k (k0_off7_eq k) (by decide) (inb := k0_off7_inb k) (chk := k0_chk6) (fun _ => chk_of) (hidx := k0_idx6_inb) (h6 := load6 _) (h7 := load7)) $$ H; iintro H
  iapply (wp_bit (F := F) d L hpv 6 k (k0_off8_eq k) (by decide) (inb := k0_off8_inb k) (chk := k0_chk7) (fun _ => chk_of) (hidx := k0_idx7_inb) (h6 := load6 _) (h7 := load7)) $$ H; iintro H
  iapply (wp_bit (F := F) d L hpv 7 k (k0_off9_eq k) (by decide) (inb := k0_off9_inb k) (chk := k0_chk8) (fun _ => chk_of) (hidx := k0_idx8_inb) (h6 := load6 _) (h7 := load7)) $$ H; iintro H
  iapply (wp_bit (F := F) d L hpv 8 k (k0_off10_eq k) (by decide) (inb := k0_off10_inb k) (chk := k0_chk9) (fun _ => chk_of) (hidx := k0_idx9_inb) (h6 := load6 _) (h7 := load7)) $$ H; iintro H
  iapply (wp_bit (F := F) d L hpv 9 k (k0_off11_eq k) (by decide) (inb := k0_off11_inb k) (chk := k0_chk10) (fun _ => chk_of) (hidx := k0_idx10_inb) (h6 := load6 _) (h7 := load7)) $$ H; iintro H
  sl_step
  isplitr; · ipureintro; rfl
  iexact H

/-- Bits 10 and 11 of a block, and the row numbers put together. -/
theorem wp_part3 (hpv : PermOK pv) (arg13 : BitVec 32) (v152 : IVec S16 32) :
    (heldPX (F := F) d L pv xr) ⊢ wp frame (wpE (defs₀ (F := F)) 𝒱₀ (tV d L) none) Set.univ
      (k0_part3 (F := F) L xW (Memref.isWhole_whole _) pW (Memref.isWhole_whole _) tW (Memref.isWhole_whole _) oW (Memref.isWhole_whole _)
        m6 (Memref.isWhole_whole _) m7 (Memref.isWhole_whole _) m8 (Memref.isWhole_whole _) m9 (Memref.isWhole_whole _) m10 (Memref.isWhole_whole _)
        cc0_scratch5 cc0_scoped0 cc0_scoped1 cc0_scoped2 k0_pay1 k arg13 v152 (bits (F := F) pv xr k 9) 9#32)
      fun r => iprop(⌜r.1 = k0_pay7 (F := F) k0_pay1 arg13 v152 (bits (F := F) pv xr k 9) 9#32 (bits (F := F) pv xr k 10) (bits (F := F) pv xr k 11)⌝ ∗ heldPX (F := F) d L pv xr) := by
  rw [k0_part3_eq_skeleton]; unfold k0_part3_skel
  iintro H
  iapply (wp_bit (F := F) d L hpv 10 k (k0_off12_eq k) (by decide) (inb := k0_off12_inb k) (chk := k0_chk11) (fun _ => chk_of) (hidx := k0_idx11_inb) (h6 := load6 _) (h7 := load7)) $$ H; iintro H
  iapply (wp_bit (F := F) d L hpv 11 k (k0_off13_eq k) (by decide) (inb := k0_off13_inb k) (chk := k0_chk12) (fun _ => chk_of) (hidx := k0_idx12_inb) (h6 := load6 _) (h7 := load7)) $$ H; iintro H
  dsimp only
  sl_step
  isplitr; · ipureintro; rfl
  iexact H

/-! ## One block -/

theorem off14_eq : ∀ k : Fin k0_t2_loop.trips, k0_off14 k = ![k.val / 8, 16 * (k.val % 8)] := by decide +kernel

/-- The row numbers stored so far: those of the first `n` neurons are in place. -/
def Filled (f : S8x128.Idx → BitVec 32) (n : ℕ) : Prop := ∀ y : S8x128.Idx, 128 * (y 0).val + (y 1).val < n → f y = gidAt xr pv y

/-- Storing a block's sixteen row numbers puts sixteen more in place. -/
theorem filled_step {f : S8x128.Idx → BitVec 32} (hf : Filled pv xr f (16 * k.val)) {v : IVec S16 32}
    (hv : ∀ x, v x = gid xr pv (16 * k.val + (x 0).val)) :
    Filled pv xr (((m8).access (Rect.unit (s := S8x128) (k0_off14 k) S1x16.size (k0_off14_inb k))).write (Elt F) f
      (shapeCast S1x16 v shapeCasts_S16_S1x16) Finset.univ) (16 * (k.val + 1)) := by
  intro y hy
  generalize k0_off14_inb k = inb
  revert inb
  rw [off14_eq]
  intro inb
  have hk : k.val < 64 := t2_trips ▸ k.isLt
  have h0 : (y 0).val < 8 := (y 0).isLt
  have h1 : (y 1).val < 128 := (y 1).isLt
  by_cases hin : 16 * k.val ≤ 128 * (y 0).val + (y 1).val
  · let x : S1x16.Idx := fun | 0 => ⟨0, by decide⟩ | 1 => ⟨(y 1).val - 16 * (k.val % 8), by show _ < 16; omega⟩
    have hy : ((m8).access (Rect.unit (s := S8x128) ![k.val / 8, 16 * (k.val % 8)] S1x16.size inb)).emb x = y := by
      refine Shape.idx_ext₂ ?_ ?_
      · show k.val / 8 + 1 * 0 = (y 0).val
        omega
      · show 16 * (k.val % 8) + 1 * ((y 1).val - 16 * (k.val % 8)) = (y 1).val
        omega
    rw [← hy]
    refine (View.write_emb_of_mem _ _ (Finset.mem_univ x)).trans ?_
    refine ((cast_eq _ _).trans (shapeCast_addUnit_apply _ _ _ x)).trans ((hv _).trans ?_)
    rw [hy]
    unfold gidAt
    congr 1
    show 16 * k.val + ((y 1).val - 16 * (k.val % 8)) = _
    omega
  · refine (View.write_of_not_mem _ _ _ ?_).trans (hf y (by omega))
    intro hm
    obtain ⟨x, -, hx⟩ := Finset.mem_map.mp hm
    have e0 : k.val / 8 + 1 * (x 0).val = (y 0).val := congrArg (fun z : S8x128.Idx => (z 0).val) hx
    have e1 : 16 * (k.val % 8) + 1 * (x 1).val = (y 1).val := congrArg (fun z : S8x128.Idx => (z 1).val) hx
    have x0 : (x 0).val < 1 := (x 0).isLt
    have x1 : (x 1).val < 16 := (x 1).isLt
    omega

theorem wp_block (hpv : PermOK pv) (v2 : BitVec 32) (t : Fin k0_t1_loop.trips) (f : S8x128.Idx → BitVec 32) (hf : Filled pv xr f (16 * k.val)) :
    iprop(heldPX (F := F) d L pv xr ∗ ((m8).view.loc (tV d L) ↦{fullShare} (f : Buf (Elt F) ((m8).view.loc (tV d L)))))
      ⊢ wp frame (wpE (defs₀ (F := F)) 𝒱₀ (tV d L) none) Set.univ
        (k0_t2_body (F := F) L xW (Memref.isWhole_whole _) pW (Memref.isWhole_whole _) tW (Memref.isWhole_whole _) oW (Memref.isWhole_whole _)
        m6 (Memref.isWhole_whole _) m7 (Memref.isWhole_whole _) m8 (Memref.isWhole_whole _) m9 (Memref.isWhole_whole _) m10 (Memref.isWhole_whole _)
        cc0_scratch5 cc0_scoped0 cc0_scoped1 cc0_scoped2 v2 k0_pay1 0#32 1#32 t k ⟨⟩)
        fun _ => iprop(heldPX (F := F) d L pv xr ∗ ∃ f' : S8x128.Idx → BitVec 32, ⌜Filled pv xr f' (16 * (k.val + 1))⌝
          ∗ ((m8).view.loc (tV d L) ↦{fullShare} (f' : Buf (Elt F) ((m8).view.loc (tV d L))))) := by
  unfold k0_t2_body
  iintro ⟨H, H8⟩
  rw [wp_bind]
  ihave H1 := (wp_part1 (F := F) d L pv xr k hpv) $$ H
  iapply (wp_wand _ _ _) $$ H1
  iintro %r ⟨%hr, H⟩
  subst hr
  dsimp only
  rw [wp_bind]
  ihave H1 := (wp_part2 (F := F) d L pv xr k hpv _ _) $$ H
  iapply (wp_wand _ _ _) $$ H1
  iintro %r ⟨%hr, H⟩
  subst hr
  dsimp only
  rw [wp_bind]
  ihave H1 := (wp_part3 (F := F) d L pv xr k hpv _ _) $$ H
  iapply (wp_wand _ _ _) $$ H1
  iintro %r ⟨%hr, H⟩
  obtain ⟨v180, v197, v199, w⟩ := r
  dsimp only at hr
  subst hr
  dsimp only
  iapply (wp_load 𝒱₀ (tV d L) none Set.univ (m := m8) (S := Finset.univ) (Finset.subset_univ _)) $$ H8; iintro H8
  have hloc : ∀ g : S8x128.Idx → BitVec 32, ((m8).view.loc (tV d L) ↦{fullShare} (g : Buf (Elt F) ((m8).view.loc (tV d L))) : sProp 𝕄)
      = (((m8).access (Rect.unit (s := S8x128) (k0_off14 k) S1x16.size (k0_off14_inb k))).loc (tV d L) ↦{fullShare} (g : Buf (Elt F) ((m8).view.loc (tV d L)))) := fun _ => rfl
  ihave H8 := (Entails.of_eq (hloc f)) $$ H8
  iapply (wp_store 𝒱₀ (tV d L) none Set.univ (m := m8) (Mk := Finset.univ) (S := Finset.univ) (Finset.subset_univ _)) $$ H8; iintro H8
  simp only [Prog.bind]
  sl_step
  isplitl [H]; · iexact H
  iexists _
  isplitr
  swap
  · iapply (Entails.of_eq (hloc _).symm); iexact H8
  ipureintro
  exact filled_step (F := F) pv xr k hf fun x => pay_lane xr pv k x

end Cert.Proof.KernelIdeal

end
-- ==== Proof.KernelIdeal.Gather.lean ====
/-
  The gathers of one row: eight indirect gathers of 128 table rows on one semaphore, as one batch of 1024 row transfers.
  Row transfer `t` writes row `t` of the gathered block with the table row that entry `t` of the list names.
-/
module

public import proofs.«01_k».proof.Proof.KernelIdeal.Block

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ
local notation "m8" => (Memref.whole Cert.KernelIdeal.cc0_scratch2 : Memref Cert.KernelIdeal.sig Kind.scVector Space.vmem Cert.KernelIdeal.S8x128 EltTy.i32)
local notation "m9" => (Memref.whole Cert.KernelIdeal.cc0_scratch3 : Memref Cert.KernelIdeal.sig Kind.scVector Space.vmem Cert.KernelIdeal.S1024x16 EltTy.f32)
local notation "tW" => (Memref.whole Cert.KernelIdeal.main_v3_scv : Memref Cert.KernelIdeal.sig Kind.scVector Space.hbm Cert.KernelIdeal.S4194304x16 EltTy.f32)

abbrev EC : UEmb Counters (MT nD τ sig (HIx 1) (Elt F) ℕ UU ℕ) := countersEmb

/-- The table's rows as the gathers address them: all of the table. -/
abbrev tSl {o : Fin 2 → ℕ} (inb : ∀ a, o a + S4194304x16.size a ≤ S4194304x16.size a) : Memref sig .scVector .hbm S4194304x16 .f32 :=
  (tW).slice (Rect.unit (s := S4194304x16) o S4194304x16.size inb) (fun _ => rfl)

/-- Chunk `o` of the gathered block. -/
abbrev gSl {o : Fin 2 → ℕ} (inb : ∀ a, o a + S128x16.size a ≤ S1024x16.size a) : Memref sig .scVector .vmem S128x16 .f32 :=
  (m9).slice (Rect.unit (s := S1024x16) o S128x16.size inb) (fun _ => rfl)

/-- Row `o` of the list of row numbers. -/
abbrev lSl {o : Fin 2 → ℕ} (inb : ∀ a, o a + S1x128.size a ≤ S8x128.size a) : Memref sig .scVector .vmem S128 .i32 :=
  ((m8).slice (Rect.unit (s := S8x128) o S1x128.size inb) (fun _ => rfl)).squeeze S128 squeezes_S1x128_S128

/-- The list entry row transfer `t` reads. -/
def posOf (t : ℕ) : S8x128.Idx := fun | 0 => ⟨t / 128 % 8, Nat.mod_lt _ (by decide)⟩ | 1 => ⟨t % 128, Nat.mod_lt _ (by decide)⟩

/-- The block gathered from the table by the list `g`. -/
def gathered (g : S8x128.Idx → BitVec 32) (tab : S4194304x16.Idx → Elt F .f32) : S1024x16.Idx → Elt F .f32 :=
  fun y => tab (iT (g (posOf (y 0).val)).toNat (y 1))

/-- Row `t` of the gathered block. -/
def rowSet (t : ℕ) : Finset S1024x16.Idx := Finset.univ.filter fun y => (y 0).val = t

theorem row_credit : ∀ i, ((gSl (o := ![0,0]) inb_S1024x16_S128x16_0_0).slice (S128x16.rowRect (gathers_S4194304x16_S128x16).axis' i) (S128x16.stride_rowRect _ i)).view.dmaCredit = 512 := by
  intro i; rfl

theorem chunk_credit : ((gSl (o := ![0,0]) inb_S1024x16_S128x16_0_0)).view.dmaCredit = 128 * 512 := by
  rfl

theorem tSl_set {o : Fin 2 → ℕ} (ho : o = ![0, 0]) (inb : ∀ a, o a + S4194304x16.size a ≤ S4194304x16.size a) :
    (tSl inb).view.set = (Finset.univ : Finset S4194304x16.Idx) := by
  subst ho
  refine Finset.eq_univ_of_forall fun y => ?_
  refine Finset.mem_map.mpr ⟨y, Finset.mem_univ _, ?_⟩
  refine Shape.idx_ext₂ ?_ ?_
  · show 0 + 1 * (y 0).val = _
    omega
  · show 0 + 1 * (y 1).val = _
    omega

/-- Row `i` of chunk `c` is row `128 c + i` of the block. -/
theorem gSl_row_set {c : ℕ} (hc : c < 8) {o : Fin 2 → ℕ} (ho : o = ![128 * c, 0]) (inb : ∀ a, o a + S128x16.size a ≤ S1024x16.size a)
    (i : Fin (S128x16.size (gathers_S4194304x16_S128x16).axis')) :
    ((gSl inb).view.slice (S128x16.rowRect (gathers_S4194304x16_S128x16).axis' i)).set = rowSet (128 * c + i.val) := by
  subst ho
  ext y
  have hi : i.val < 128 := i.isLt
  have y1 : (y 1).val < 16 := (y 1).isLt
  refine Iff.trans Finset.mem_map ⟨?_, ?_⟩
  · rintro ⟨x, -, hx⟩
    have e0 : 128 * c + 1 * (i.val + 1 * (x 0).val) = (y 0).val := congrArg (fun z : S1024x16.Idx => (z 0).val) hx
    have x0 : (x 0).val < 1 := (x 0).isLt
    refine Finset.mem_filter.mpr ⟨Finset.mem_univ _, ?_⟩
    show (y 0).val = 128 * c + i.val
    omega
  · intro hy
    have hy : (y 0).val = 128 * c + i.val := (Finset.mem_filter.mp hy).2
    refine ⟨(fun (b : Fin 2) => match b with | 0 => ⟨0, by decide⟩ | 1 => ⟨(y 1).val, y1⟩ : (S128x16.rowShape (gathers_S4194304x16_S128x16).axis').Idx), Finset.mem_univ _, ?_⟩
    refine Shape.idx_ext₂ ?_ ?_
    · show 128 * c + 1 * (i.val + 1 * 0) = (y 0).val
      omega
    · show 0 + 1 * (0 + 1 * (y 1).val) = (y 1).val
      omega

/-- Entry `i` of row `c` of the list is the entry of row transfer `128 c + i`. -/
theorem lSl_entry {c : ℕ} (hc : c < 8) {o : Fin 2 → ℕ} (ho : o = ![c, 0]) (inb : ∀ a, o a + S1x128.size a ≤ S8x128.size a)
    (x : S128.Idx) : (lSl inb).view.emb x = posOf (128 * c + (x 0).val) := by
  subst ho
  have hx : (x 0).val < 128 := (x 0).isLt
  have e : Shape.reshapeEquiv (squeezes_S1x128_S128).numel_eq x = (fun | 0 => ⟨0, by decide⟩ | 1 => ⟨(x 0).val, hx⟩ : S1x128.Idx) := by
    refine Shape.reshapeEquiv_eq_of_rowMajor _ ?_
    refine (Shape.rowMajor_val_two _).trans (Eq.trans ?_ (Shape.rowMajor_val_one _).symm)
    show 0 * 128 + (x 0).val = _
    omega
  show ((m8).slice (Rect.unit (s := S8x128) ![c, 0] S1x128.size inb) (fun _ => rfl)).view.emb (Shape.reshapeEquiv _ x) = _
  rw [e]
  refine Shape.idx_ext₂ ?_ ?_
  · show c + 1 * 0 = (128 * c + (x 0).val) / 128 % 8
    omega
  · show 0 + 1 * (x 0).val = (128 * c + (x 0).val) % 128
    omega

/-- Entry `k` of a list of 128 has coordinate `k`. -/
theorem entry_val (k : Fin 128) (hn : S128.numel = 128) : ((BatchGather.entryAt (si := S128) hn k) 0).val = k.val := by
  have h := Shape.rowMajor_val_one (BatchGather.entryAt (si := S128) hn k)
  rw [← h]
  unfold BatchGather.entryAt
  simp

/-- The entry row `i` of chunk `c` is gathered by. -/
theorem lSl_at {c : ℕ} (hc : c < 8) {o : Fin 2 → ℕ} (ho : o = ![c, 0]) (inb : ∀ a, o a + S1x128.size a ≤ S8x128.size a)
    (i : Fin (S128x16.size (gathers_S4194304x16_S128x16).axis')) (hn : S128.numel = S128x16.size (gathers_S4194304x16_S128x16).axis') :
    (lSl inb).view.emb (BatchGather.entryAt (si := S128) hn i) = posOf (128 * c + i.val) :=
  (lSl_entry hc ho inb _).trans (congrArg (fun n => posOf (128 * c + n)) (entry_val i hn))

variable (d : Dev nD) (L : grid0.Coords) (q : PosShare TreeShare) (g : S8x128.Idx → BitVec 32) (tab : S4194304x16.Idx → Elt F .f32)

/-- Row `t` of the block at the contents `fr`, entry `t` of the list, and one of 1024 shares of the table. -/
def piecesAt (fr : S1024x16.Idx → Elt F .f32) (t : Fin 1024) : sProp 𝕄 :=
  iprop(((m9).view.loc (tV d L) ↦[rowSet t.val]{fullShare} (fr : Buf (Elt F) ((m9).view.loc (tV d L))))
    ∗ ((m8).view.loc (tV d L) ↦[{posOf t.val}]{fullShare} (g : Buf (Elt F) ((m8).view.loc (tV d L))))
    ∗ ((tW).view.loc (tV d L) ↦[Finset.univ]{pieceOf q 1024 (by decide) t} (tab : Buf (Elt F) ((tW).view.loc (tV d L)))))

instance (fr : S1024x16.Idx → Elt F .f32) (t : Fin 1024) : Storable (upEmb : UEmb _ 𝕄) (piecesAt d L q g tab fr t) := by
  unfold piecesAt; infer_instance

/-- The batch of the 1024 row transfers, `j` of them issued and the credit of `u` taken. -/
abbrev rowBatch (j u : ℕ) : sProp 𝕄 :=
  Transfers.Batch EC (tV d L) (.dma cc0_scratch5.sem) (default : HIx 1) 512 (piecesAt d L q g tab (gathered g tab)) j u

/-- The row a transfer writes is the gathered block's. -/
theorem row_written (hg : ∀ y, (g y).toNat < 4194304) {c : ℕ} (hc : c < 8) {og ol ot : Fin 2 → ℕ} (hog : og = ![128 * c, 0]) (hol : ol = ![c, 0])
    (hot : ot = ![0, 0]) (ig : ∀ a, og a + S128x16.size a ≤ S1024x16.size a) (il : ∀ a, ol a + S1x128.size a ≤ S8x128.size a)
    (it : ∀ a, ot a + S4194304x16.size a ≤ S4194304x16.size a) (hn : S128.numel = S128x16.size (gathers_S4194304x16_S128x16).axis')
    (hin : ∀ x, ((lSl il).view.read (Elt F) g x : BitVec 32).toNat < S4194304x16.size (gathers_S4194304x16_S128x16).axis)
    (i : Fin (S128x16.size (gathers_S4194304x16_S128x16).axis')) (fr : S1024x16.Idx → Elt F .f32) :
    ∀ y ∈ rowSet (128 * c + i.val),
      (((gSl ig).view.slice (S128x16.rowRect (gathers_S4194304x16_S128x16).axis' i)).write (Elt F) fr
        (fun x => (tSl it).view.read (Elt F) tab ((gathers_S4194304x16_S128x16).rowIdx
          (SparseCore.rows (F := F) ((lSl il).view.read (Elt F) g) hn hin i) x)) Finset.univ) y = gathered g tab y := by
  intro y hy
  rw [← gSl_row_set hc hog ig i] at hy
  obtain ⟨x, -, rfl⟩ := Finset.mem_map.mp hy
  refine (View.write_emb_of_mem _ _ (Finset.mem_univ x)).trans ?_
  refine (cast_eq _ _).trans ?_
  subst hog hot
  have hi : i.val < 128 := i.isLt
  have x0 : (x 0).val < 1 := (x 0).isLt
  have x1 : (x 1).val < 16 := (x 1).isLt
  show tab _ = tab _
  congr 1
  have e0 : (((gSl ig).view.slice (S128x16.rowRect (gathers_S4194304x16_S128x16).axis' i)).emb x 0).val = 128 * c + i.val := by
    show 128 * c + 1 * (i.val + 1 * (x 0).val) = _
    omega
  refine Shape.idx_ext₂ ?_ ?_
  · show 0 + 1 * ((g ((lSl il).view.emb (BatchGather.entryAt (si := S128) hn i))).toNat) = (g (posOf _)).toNat % 4194304
    rw [lSl_at hc hol il i hn, Nat.mod_eq_of_lt (hg _), Nat.zero_add, Nat.one_mul]
    exact congrArg (fun n => (g (posOf n)).toNat) e0.symm
  · show 0 + 1 * (x 1).val = 0 + 1 * (0 + 1 * (x 1).val)
    omega

/-- Issuing the gather of chunk `c`. -/
theorem wp_issue {α : Type} {Q : α → sProp 𝕄} (hg : ∀ y, (g y).toNat < 4194304) (fr : S1024x16.Idx → Elt F .f32) {c : ℕ} (hc : c < 8) {j : ℕ} (hj : j = 128 * c)
    {og ol ot : Fin 2 → ℕ} (hog : og = ![128 * c, 0]) (hol : ol = ![c, 0]) (hot : ot = ![0, 0])
    {ig : ∀ a, og a + S128x16.size a ≤ S1024x16.size a} {il : ∀ a, ol a + S1x128.size a ≤ S8x128.size a}
    {it : ∀ a, ot a + S4194304x16.size a ≤ S4194304x16.size a}
    {hp : (tV d L).2.kind = .scVector} {hn : S128.numel = S128x16.size (gathers_S4194304x16_S128x16).axis'}
    {hsrc : (tSl it).view.WordExact} {he : EltTy.f32.bits = 32} {hsp : Space.hbm = .hbm ∨ Space.hbm = .shared} {hr : S4194304x16.StreamRows 0}
    {kk : PUnit → Prog (TpuEff nD τ sig (Elt F) Λ₀ (tV d L).2) α} :
    iprop(bigSep (Transfers.pending j) (piecesAt d L q g tab fr) ∗ rowBatch d L q g tab j 0)
      ⊢ iprop((iprop(bigSep (Transfers.pending (j + 128)) (piecesAt d L q g tab fr) ∗ rowBatch d L q g tab (j + 128) 0)
              -∗ wp frame (wpE (defs₀ (F := F)) 𝒱₀ (tV d L) none) Set.univ (kk ⟨⟩) Q)
          -∗ wp frame (wpE (defs₀ (F := F)) 𝒱₀ (tV d L) none) Set.univ
            (SparseCore.enqueueIndirectGather hp (tSl it) (gSl ig) gathers_S4194304x16_S128x16 (lSl il) hn cc0_scratch5.sem hsrc he hsp hr >>= kk) Q) := by
  have hlist : ∀ x, ((lSl il).view.read (Elt F) g x : BitVec 32) = g (posOf (128 * c + (x 0).val)) := fun x => by
    show g _ = g _
    rw [lSl_entry hc hol il]
  have hin : ∀ x, ((lSl il).view.read (Elt F) g x : BitVec 32).toNat < S4194304x16.size (gathers_S4194304x16_S128x16).axis := fun x => by
    rw [hlist]; exact hg _
  have hjj : j + S128x16.size (gathers_S4194304x16_S128x16).axis' ≤ 1024 := by
    show j + 128 ≤ 1024
    omega
  have hnth : ∀ i : Fin (S128x16.size (gathers_S4194304x16_S128x16).axis'), (BatchGather.nth hjj i).val = 128 * c + i.val := fun i => by
    show j + i.val = _
    rw [hj]
  exact BatchGather.wp_gatherBatch EC 𝒱₀ (tV d L) none (src := tSl it) (dst := gSl ig) (offs := lSl il) (hn := hn) (sem := cc0_scratch5.sem)
    (qo := fullShare) (qk := fun i => pieceOf q 1024 (by decide) (BatchGather.nth hjj i)) (fs := tab) (fd := fr) (fo := g)
    (default : HIx 1) 512 (fun _ => rfl) hin hjj
    (fun i => by
      unfold piecesAt
      rw [gSl_row_set hc hog ig i, tSl_set hot it, lSl_at hc hol il i hn, hnth i])
    (fun i => by
      unfold piecesAt
      rw [gSl_row_set hc hog ig i, tSl_set hot it, lSl_at hc hol il i hn, hnth i]
      refine sep_mono_left ?_
      exact Entails.of_eq (pointsTo_congr (row_written g tab hg hc hog hol hot ig il it hn hin i fr)))

end Cert.Proof.KernelIdeal

end
-- ==== Proof.KernelIdeal.Stage.lean ====
/-
  The stages of one row: filling the list of row numbers, splitting the memory into the row transfers' pieces, issuing and
  waiting for the gathers, and summing the gathered rows.
-/
module

public import proofs.«01_k».proof.Proof.KernelIdeal.Gather

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ
local notation "m6" => (Memref.whole Cert.KernelIdeal.cc0_scratch0 : Memref Cert.KernelIdeal.sig Kind.scVector Space.vmem Cert.KernelIdeal.S12288 EltTy.i32)
local notation "m7" => (Memref.whole Cert.KernelIdeal.cc0_scratch1 : Memref Cert.KernelIdeal.sig Kind.scVector Space.vmem Cert.KernelIdeal.S12288 EltTy.i32)
local notation "m8" => (Memref.whole Cert.KernelIdeal.cc0_scratch2 : Memref Cert.KernelIdeal.sig Kind.scVector Space.vmem Cert.KernelIdeal.S8x128 EltTy.i32)
local notation "xW" => (Memref.whole Cert.KernelIdeal.main_arg0_scv : Memref Cert.KernelIdeal.sig Kind.scVector Space.hbm Cert.KernelIdeal.S4096x12288 EltTy.i32)
local notation "pW" => (Memref.whole Cert.KernelIdeal.main_v2_scv : Memref Cert.KernelIdeal.sig Kind.scVector Space.hbm Cert.KernelIdeal.S12288 EltTy.i32)
local notation "tW" => (Memref.whole Cert.KernelIdeal.main_v3_scv : Memref Cert.KernelIdeal.sig Kind.scVector Space.hbm Cert.KernelIdeal.S4194304x16 EltTy.f32)
local notation "oW" => (Memref.whole Cert.KernelIdeal.main_v4_scv : Memref Cert.KernelIdeal.sig Kind.scVector Space.hbm Cert.KernelIdeal.S4096x16 EltTy.f32)
local notation "m9" => (Memref.whole Cert.KernelIdeal.cc0_scratch3 : Memref Cert.KernelIdeal.sig Kind.scVector Space.vmem Cert.KernelIdeal.S1024x16 EltTy.f32)
local notation "m10" => (Memref.whole Cert.KernelIdeal.cc0_scratch4 : Memref Cert.KernelIdeal.sig Kind.scVector Space.vmem Cert.KernelIdeal.S128x16 EltTy.f32)

variable (d : Dev nD) (L : grid0.Coords)

/-! ## Filling the list -/

/-- The 64 blocks put every row number in place. -/
theorem wp_fill {pv xr : S12288.Idx → BitVec 32} (hpv : PermOK pv) (v2 : BitVec 32) (t : Fin k0_t1_loop.trips) (f : S8x128.Idx → BitVec 32) :
    iprop(heldPX (F := F) d L pv xr ∗ ((m8).view.loc (tV d L) ↦{fullShare} (f : Buf (Elt F) ((m8).view.loc (tV d L)))))
      ⊢ wp frame (wpE (defs₀ (F := F)) 𝒱₀ (tV d L) none) Set.univ
        (Scf.Loop.for k0_t2_loop k0_t2_ok ⟨⟩ (k0_t2_body (F := F) L xW (Memref.isWhole_whole _) pW (Memref.isWhole_whole _) tW (Memref.isWhole_whole _) oW (Memref.isWhole_whole _)
        m6 (Memref.isWhole_whole _) m7 (Memref.isWhole_whole _) m8 (Memref.isWhole_whole _) m9 (Memref.isWhole_whole _) m10 (Memref.isWhole_whole _)
        cc0_scratch5 cc0_scoped0 cc0_scoped1 cc0_scoped2 v2 k0_pay1 0#32 1#32 t))
        fun _ => iprop(heldPX (F := F) d L pv xr ∗ ((m8).view.loc (tV d L) ↦{fullShare} (gidAt xr pv : Buf (Elt F) ((m8).view.loc (tV d L))))) := by
  iintro ⟨H, H8⟩
  sl_for (fun k _ => iprop(heldPX (F := F) d L pv xr ∗ ∃ f' : S8x128.Idx → BitVec 32, ⌜Filled pv xr f' (16 * k)⌝
          ∗ ((m8).view.loc (tV d L) ↦{fullShare} (f' : Buf (Elt F) ((m8).view.loc (tV d L)))))) $$ [H H8]
  case region =>
    intro k _
    iintro ⟨H, %f', %hf', H8⟩
    iapply (wp_block (F := F) d L pv xr k hpv v2 t f' hf')
    isplitl [H] <;> iassumption
  isplitl [H H8]
  · isplitl [H]; · iexact H
    iexists f
    isplitr; · ipureintro; intro y hy; omega
    iexact H8
  iintro %_ ⟨H, %f', %hf', H8⟩
  have he : f' = gidAt xr pv := by
    funext y
    have h0 : (y 0).val < 8 := (y 0).isLt
    have h1 : (y 1).val < 128 := (y 1).isLt
    refine hf' y ?_
    show 128 * (y 0).val + (y 1).val < _
    have : Scf.trips k0_t2_loop.lb k0_t2_loop.ub k0_t2_loop.st = 64 := t2_trips
    omega
  subst he
  isplitl [H] <;> iassumption

/-! ## Summing -/

theorem off15_eq : ∀ (k : Fin k0_t3_loop.trips) (u : Fin 4), k0_off15 k (BitVec.ofNat 32 u.val) = ![4 * k.val + u.val, 0] := by decide +kernel

/-- One of the four rows a trip adds. -/
theorem row_read (G : S1024x16.Idx → Elt F .f32) (k : Fin k0_t3_loop.trips) {u : ℕ} (hu : u < 4) {off : Fin 2 → ℕ} (ho : off = ![4 * k.val + u, 0])
    {inb : ∀ a, off a + S1x16.size a ≤ S1024x16.size a} :
    shapeCast S16 ((m9).view.readAt (Elt F) (Rect.unit (s := S1024x16) off S1x16.size inb).toLoadRect G : Vec F S1x16 .f32) shapeCasts_S1x16_S16
      = fun x => G (iG (4 * k.val + u) (x 0)) := by
  subst ho
  have hk : k.val < 256 := t3_trips ▸ k.isLt
  funext x
  refine (shapeCast_dropUnit_apply _ _ _ x).trans ?_
  show G _ = G _
  congr 1
  refine Shape.idx_ext₂ ?_ ?_
  · show 4 * k.val + u + 1 * 0 = (4 * k.val + u) % 1024
    omega
  · show 0 + 1 * (x 0).val = (x 0).val
    omega

theorem pay_sum (G : S1024x16.Idx → Elt F .f32) (n : ℕ) {v0 v1 v2 v3 : Vec F S1x16 .f32}
    (h0 : shapeCast S16 v0 shapeCasts_S1x16_S16 = fun x => G (iG (4 * n + 0) (x 0))) (h1 : shapeCast S16 v1 shapeCasts_S1x16_S16 = fun x => G (iG (4 * n + 1) (x 0)))
    (h2 : shapeCast S16 v2 shapeCasts_S1x16_S16 = fun x => G (iG (4 * n + 2) (x 0))) (h3 : shapeCast S16 v3 shapeCasts_S1x16_S16 = fun x => G (iG (4 * n + 3) (x 0))) :
    k0_pay3 (sumTo G (4 * n)) v0 v1 v2 v3 = sumTo G (4 * (n + 1)) := by
  unfold k0_pay3
  dsimp only
  rw [h0, h1, h2, h3]
  rfl

/-- A trip adds four rows to the running sum. -/
theorem wp_sum_step (G : S1024x16.Idx → Elt F .f32) (k : Fin k0_t3_loop.trips) :
    (((m9).view.loc (tV d L) ↦{fullShare} (G : Buf (Elt F) ((m9).view.loc (tV d L)))) : sProp 𝕄)
      ⊢ wp frame (wpE (defs₀ (F := F)) 𝒱₀ (tV d L) none) Set.univ
        (k0_t3_body (F := F) L xW (Memref.isWhole_whole _) pW (Memref.isWhole_whole _) tW (Memref.isWhole_whole _) oW (Memref.isWhole_whole _)
        m6 (Memref.isWhole_whole _) m7 (Memref.isWhole_whole _) m8 (Memref.isWhole_whole _) m9 (Memref.isWhole_whole _) m10 (Memref.isWhole_whole _)
        cc0_scratch5 cc0_scoped0 cc0_scoped1 cc0_scoped2 k (sumTo G (4 * k.val)))
        fun r => iprop(⌜r = sumTo G (4 * (k.val + 1))⌝ ∗ ((m9).view.loc (tV d L) ↦{fullShare} (G : Buf (Elt F) ((m9).view.loc (tV d L))))) := by
  unfold k0_t3_body
  iintro H
  iapply (wp_load 𝒱₀ (tV d L) none Set.univ (m := m9) (S := Finset.univ) (Finset.subset_univ _)) $$ H; iintro H
  iapply (wp_load 𝒱₀ (tV d L) none Set.univ (m := m9) (S := Finset.univ) (Finset.subset_univ _)) $$ H; iintro H
  iapply (wp_load 𝒱₀ (tV d L) none Set.univ (m := m9) (S := Finset.univ) (Finset.subset_univ _)) $$ H; iintro H
  iapply (wp_load 𝒱₀ (tV d L) none Set.univ (m := m9) (S := Finset.univ) (Finset.subset_univ _)) $$ H; iintro H
  simp only [Prog.bind]
  sl_step
  isplitr
  · ipureintro
    exact pay_sum G k.val (row_read G k (u := 0) (by decide) (off15_eq k 0)) (row_read G k (u := 1) (by decide) (off15_eq k 1))
      (row_read G k (u := 2) (by decide) (off15_eq k 2)) (row_read G k (u := 3) (by decide) (off15_eq k 3))
  · iexact H

/-- The loop's result is the sum of the 1024 rows. -/
theorem wp_sum (G : S1024x16.Idx → Elt F .f32) :
    (((m9).view.loc (tV d L) ↦{fullShare} (G : Buf (Elt F) ((m9).view.loc (tV d L)))) : sProp 𝕄)
      ⊢ wp frame (wpE (defs₀ (F := F)) 𝒱₀ (tV d L) none) Set.univ
        (Scf.Loop.for k0_t3_loop k0_t3_ok (k0_pay2 (F := F)) (k0_t3_body (F := F) L xW (Memref.isWhole_whole _) pW (Memref.isWhole_whole _) tW (Memref.isWhole_whole _) oW (Memref.isWhole_whole _)
        m6 (Memref.isWhole_whole _) m7 (Memref.isWhole_whole _) m8 (Memref.isWhole_whole _) m9 (Memref.isWhole_whole _) m10 (Memref.isWhole_whole _)
        cc0_scratch5 cc0_scoped0 cc0_scoped1 cc0_scoped2))
        fun r => iprop(⌜r = sumTo G 1024⌝ ∗ ((m9).view.loc (tV d L) ↦{fullShare} (G : Buf (Elt F) ((m9).view.loc (tV d L))))) := by
  iintro H
  sl_for (fun k r => iprop(⌜r = sumTo G (4 * k)⌝ ∗ ((m9).view.loc (tV d L) ↦{fullShare} (G : Buf (Elt F) ((m9).view.loc (tV d L)))))) $$ [H]
  case region =>
    intro k r
    iintro ⟨%hr, H⟩
    subst hr
    iapply (wp_sum_step (F := F) d L G k)
    iexact H
  isplitl [H]
  · isplitr; · ipureintro; rfl
    iexact H
  iintro %r ⟨%hr, H⟩
  isplitr
  · ipureintro
    rw [hr]
    have : Scf.trips 0#32 256#32 1#32 = 256 := t3_trips
    exact congrArg (fun n => sumTo G (4 * n)) this
  iexact H

end Cert.Proof.KernelIdeal

end
-- ==== Proof.KernelIdeal.Keys.lean ====
/-
  The size of a row number: twelve bits put at twelve places make a number below 4096, and the neuron's block of 4096
  table rows contains it.
-/
module

public import proofs.«01_k».proof.Proof.KernelIdeal.Setup
public import Idealize.ShloMosaic.PureOps.Ideal

@[expose] public section

noncomputable section

namespace Cert.Proof.KernelIdeal

open Cert.KernelIdeal Cert.KernelIdeal.Gen
open Idealize.ShloMosaic

/-- Bits put at the places `0, …, m - 1` are the number they write in binary, which is below `2 ^ m`. -/
theorem bits_toNat (b : ℕ → BitVec 32) (hb : ∀ j, (b j).toNat < 2) : ∀ m, m ≤ 12 →
    ((List.range m).foldl (fun acc j => acc ||| b j <<< j) 0#32).toNat = ∑ j ∈ Finset.range m, (b j).toNat * 2 ^ j
      ∧ ∑ j ∈ Finset.range m, (b j).toNat * 2 ^ j < 2 ^ m := by
  intro m
  induction m with
  | zero => intro _; exact ⟨rfl, by simp⟩
  | succ m ih =>
    intro hm
    obtain ⟨he, hlt⟩ := ih (by omega)
    have hb' := hb m
    have hp : 2 ^ m ≤ 2 ^ 11 := Nat.pow_le_pow_right (by decide) (by omega)
    have hs : (b m <<< m).toNat = 2 ^ m * (b m).toNat := by
      rw [BitVec.toNat_shiftLeft, Nat.shiftLeft_eq, Nat.mul_comm, Nat.mod_eq_of_lt]
      nlinarith
    rw [List.range_succ, List.foldl_append, Finset.sum_range_succ, pow_succ]
    constructor
    · show (_ ||| b m <<< m).toNat = _
      rw [BitVec.toNat_or, he, hs, Nat.or_comm, ← Nat.two_pow_add_eq_or_of_lt hlt, Nat.mul_comm, Nat.add_comm]
    · nlinarith

variable (xr pv : S12288.Idx → BitVec 32)

theorem key_toNat (hx : ∀ y, (xr y).toNat < 2) (n : ℕ) : (key xr pv n).toNat = ∑ j ∈ Finset.range 12, (bit xr pv n j).toNat * 2 ^ j :=
  (bits_toNat (bit xr pv n) (fun _ => hx _) 12 le_rfl).1

theorem key_lt (hx : ∀ y, (xr y).toNat < 2) (n : ℕ) : (key xr pv n).toNat < 4096 :=
  (key_toNat xr pv hx n) ▸ (bits_toNat (bit xr pv n) (fun _ => hx _) 12 le_rfl).2

/-- The row number is the key within the neuron's block. -/
theorem gid_toNat (hx : ∀ y, (xr y).toNat < 2) (n : ℕ) (hn : n < 1024) : (gid xr pv n).toNat = (key xr pv n).toNat + 4096 * n := by
  have := key_lt xr pv hx n
  unfold gid
  rw [BitVec.toNat_add, BitVec.toNat_ofNat, Nat.mod_eq_of_lt (a := 4096 * n) (by omega), Nat.mod_eq_of_lt (by omega)]

/-- Every row number names a row of the table. -/
theorem gidAt_lt (hx : ∀ y, (xr y).toNat < 2) (y : S8x128.Idx) : (gidAt xr pv y).toNat < 4194304 := by
  have h0 : (y 0).val < 8 := (y 0).isLt
  have h1 : (y 1).val < 128 := (y 1).isLt
  have hn : 128 * (y 0).val + (y 1).val < 1024 := by omega
  have := key_lt xr pv hx (128 * (y 0).val + (y 1).val)
  unfold gidAt
  rw [gid_toNat xr pv hx _ hn]
  omega

end Cert.Proof.KernelIdeal

end
-- ==== Proof.KernelIdeal.Waits.lean ====
/-
  A copy with its wait, and the row transfers' issues and waits as a whole: the memory is split into the transfers' pieces,
  the eight gathers are issued and waited for, and the last wait gives the memory back with the gathered block.
-/
module

public import proofs.«01_k».proof.Proof.KernelIdeal.Stage
public import proofs.«01_k».proof.Proof.KernelIdeal.Keys

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ
local notation "m6" => (Memref.whole Cert.KernelIdeal.cc0_scratch0 : Memref Cert.KernelIdeal.sig Kind.scVector Space.vmem Cert.KernelIdeal.S12288 EltTy.i32)
local notation "m7" => (Memref.whole Cert.KernelIdeal.cc0_scratch1 : Memref Cert.KernelIdeal.sig Kind.scVector Space.vmem Cert.KernelIdeal.S12288 EltTy.i32)
local notation "m8" => (Memref.whole Cert.KernelIdeal.cc0_scratch2 : Memref Cert.KernelIdeal.sig Kind.scVector Space.vmem Cert.KernelIdeal.S8x128 EltTy.i32)
local notation "xW" => (Memref.whole Cert.KernelIdeal.main_arg0_scv : Memref Cert.KernelIdeal.sig Kind.scVector Space.hbm Cert.KernelIdeal.S4096x12288 EltTy.i32)
local notation "pW" => (Memref.whole Cert.KernelIdeal.main_v2_scv : Memref Cert.KernelIdeal.sig Kind.scVector Space.hbm Cert.KernelIdeal.S12288 EltTy.i32)
local notation "tW" => (Memref.whole Cert.KernelIdeal.main_v3_scv : Memref Cert.KernelIdeal.sig Kind.scVector Space.hbm Cert.KernelIdeal.S4194304x16 EltTy.f32)
local notation "oW" => (Memref.whole Cert.KernelIdeal.main_v4_scv : Memref Cert.KernelIdeal.sig Kind.scVector Space.hbm Cert.KernelIdeal.S4096x16 EltTy.f32)
local notation "m9" => (Memref.whole Cert.KernelIdeal.cc0_scratch3 : Memref Cert.KernelIdeal.sig Kind.scVector Space.vmem Cert.KernelIdeal.S1024x16 EltTy.f32)
local notation "m10" => (Memref.whole Cert.KernelIdeal.cc0_scratch4 : Memref Cert.KernelIdeal.sig Kind.scVector Space.vmem Cert.KernelIdeal.S128x16 EltTy.f32)

variable (d : Dev nD) (L : grid0.Coords)

/-! ## A copy and its wait -/

/-- A local copy on a semaphore at zero, and the wait for it directly after. -/
theorem wp_copyWait {α : Type} {Q : α → sProp 𝕄} {c : Thread nD τ} {sp sp' sp'' : Space} {s s' : Shape} {e e' : EltTy} {src : Memref sig c.2.kind sp s e}
    {dst : Memref sig c.2.kind sp' s e} {srcw : Memref sig c.2.kind sp'' s' e'} {sem : DmaSem sig} {h1 : src.view.WordExact} {h2 : dst.view.WordExact}
    {h3 : DmaTarget.Typed (nD := nD) sp (.dma sem) (.here dst)} {h4 : srcw.view.WordExact} {h5 : dst.view.WordExact}
    {kk : PUnit → Prog (TpuEff nD τ sig (Elt F) Λ₀ c.2) α} {q : PosShare TreeShare} {fs : Buf (Elt F) (src.view.loc c)}
    {Sd : Finset (Idx (dst.view.loc c))} {fd : Buf (Elt F) (dst.view.loc c)} {O : CellTallies nD τ sig (HIx 1)} {W : Waits sig (HIx 1)}
    (hpos : 0 < s.numel) (hSd : dst.view.set ⊆ Sd) :
    iprop((src.view.loc c ↦[src.view.set]{q} fs) ∗ (dst.view.loc c ↦[Sd]{fullShare} fd) ∗ semVal (c, .dma sem) 0
        ∗ owes c O W ∗ Transfers.MayWaits c (default : HIx 1) O)
      ⊢ iprop((iprop((dst.view.loc c ↦[Sd]{fullShare} (dst.view.write (Elt F) fd (src.view.read (Elt F) fs) Finset.univ))
              ∗ (src.view.loc c ↦[src.view.set]{q} fs) ∗ semVal (c, .dma sem) 0 ∗ owes c O (insert (SemLoc.dma sem, (default : HIx 1)) W))
            -∗ wp frame (wpE (defs₀ (F := F)) 𝒱₀ c none) Set.univ (kk ⟨⟩) Q)
          -∗ wp frame (wpE (defs₀ (F := F)) 𝒱₀ c none) Set.univ
            (.op (.enqueueDma src (.here dst) (.dma sem) h1 h2 h3) fun _ => .op (.waitDma2 sem srcw dst h4 h5) kk) Q) := by
  iintro ⟨Hs, Hd, Hv, HO, Hmw⟩ Hk
  iapply (Transfers.wp_dmaLocal EC 𝒱₀ c none (default : HIx 1) dst.view.dmaCredit rfl (View.dmaCredit_pos _ hpos) hSd) $$ [Hs Hd Hv]
  · isplitl [Hs]; · iexact Hs
    isplitl [Hd]; · iexact Hd
    iexact Hv
  iintro Hf
  iapply (Transfers.wp_waitLocalO EC 𝒱₀ c none (default : HIx 1) rfl) $$ [Hf HO Hmw]
  · isplitl [Hf]; · iexact Hf
    isplitl [HO]; · iexact HO
    iapply (Transfers.MayWaits.elim (SemLoc.dma sem)) $$ Hmw
  iintro ⟨⟨Hd, Hs⟩, Hv, HO⟩
  iapply Hk
  isplitl [Hd]; · iexact Hd
  isplitl [Hs]; · iexact Hs
  isplitl [Hv] <;> iassumption

/-! ## The gathers as a whole -/

section Gathers

variable (q : PosShare TreeShare) (g : S8x128.Idx → BitVec 32) (tab : S4194304x16.Idx → Elt F .f32)

/-- Sets that cover a type, one for each number below `n`. -/
theorem cover_eq {α : Type} [Fintype α] [DecidableEq α] {n : ℕ} (K : Fin n → Finset α) (f : α → Fin n) (h : ∀ y, y ∈ K (f y)) :
    (Finset.univ : Finset α) = (Finset.univ : Finset (Fin n)).biUnion K :=
  (Finset.eq_univ_of_forall fun y => Finset.mem_biUnion.mpr ⟨f y, Finset.mem_univ _, h y⟩).symm

/-- The block, the list and a share of the table are the pieces of the 1024 row transfers. -/
theorem pieces_eq (fr : S1024x16.Idx → Elt F .f32) :
    iprop(((m9).view.loc (tV d L) ↦{fullShare} (fr : Buf (Elt F) ((m9).view.loc (tV d L)))) ∗ ((m8).view.loc (tV d L) ↦{fullShare} (g : Buf (Elt F) ((m8).view.loc (tV d L)))) ∗ ((tW).view.loc (tV d L) ↦[Finset.univ]{q} (tab : Buf (Elt F) ((tW).view.loc (tV d L)))))
      = (bigSep Finset.univ (piecesAt d L q g tab fr) : sProp 𝕄) := by
  have h9 : (Finset.univ : Finset S1024x16.Idx) = (Finset.univ : Finset (Fin 1024)).biUnion fun t => rowSet t.val := by
    exact cover_eq (fun t : Fin 1024 => rowSet t.val) (fun y => ⟨(y 0).val, (y 0).isLt⟩) fun y => Finset.mem_filter.mpr ⟨Finset.mem_univ _, rfl⟩
  have d9 : ∀ t ∈ (Finset.univ : Finset (Fin 1024)), ∀ t' ∈ (Finset.univ : Finset (Fin 1024)), t ≠ t' → Disjoint (rowSet t.val) (rowSet t'.val) := by
    intro t _ t' _ hne
    refine Finset.disjoint_left.mpr fun y h1 h2 => hne (Fin.ext ?_)
    exact (Finset.mem_filter.mp h1).2.symm.trans (Finset.mem_filter.mp h2).2
  have h8 : (Finset.univ : Finset S8x128.Idx) = (Finset.univ : Finset (Fin 1024)).biUnion fun t => {posOf t.val} := by
    have hlt : ∀ y : S8x128.Idx, 128 * (y 0).val + (y 1).val < 1024 := fun y => by
      have y0 : (y 0).val < 8 := (y 0).isLt
      have y1 : (y 1).val < 128 := (y 1).isLt
      omega
    refine cover_eq (fun t : Fin 1024 => ({posOf t.val} : Finset S8x128.Idx)) (fun y => ⟨128 * (y 0).val + (y 1).val, hlt y⟩) fun y => Finset.mem_singleton.mpr ?_
    have y0 : (y 0).val < 8 := (y 0).isLt
    have y1 : (y 1).val < 128 := (y 1).isLt
    refine Shape.idx_ext₂ ?_ ?_
    · show (y 0).val = (128 * (y 0).val + (y 1).val) / 128 % 8
      omega
    · show (y 1).val = (128 * (y 0).val + (y 1).val) % 128
      omega
  have d8 : ∀ t ∈ (Finset.univ : Finset (Fin 1024)), ∀ t' ∈ (Finset.univ : Finset (Fin 1024)), t ≠ t' →
      Disjoint ({posOf t.val} : Finset S8x128.Idx) {posOf t'.val} := by
    intro t _ t' _ hne
    refine Finset.disjoint_singleton.mpr fun h => hne (Fin.ext ?_)
    have e0 : t.val / 128 % 8 = t'.val / 128 % 8 := congrArg (fun z : S8x128.Idx => (z 0).val) h
    have e1 : t.val % 128 = t'.val % 128 := congrArg (fun z : S8x128.Idx => (z 1).val) h
    have := t.isLt
    have := t'.isLt
    omega
  unfold piecesAt
  rw [bigSep_sep', bigSep_sep', ← pointsTo_piecesOf (Finset.univ) _ (by decide) q]
  refine congrArg₂ (fun A B : sProp 𝕄 => iprop(A ∗ B)) ?_ (congrArg₂ (fun A B : sProp 𝕄 => iprop(A ∗ B)) ?_ rfl)
  · exact (congrArg (fun S : Finset S1024x16.Idx => (((m9).view.loc (tV d L) ↦[S]{fullShare} (fr : Buf (Elt F) ((m9).view.loc (tV d L)))) : sProp 𝕄)) h9).trans
      (pointsTo_biUnion _ _ d9)
  · exact (congrArg (fun S : Finset S8x128.Idx => (((m8).view.loc (tV d L) ↦[S]{fullShare} (g : Buf (Elt F) ((m8).view.loc (tV d L)))) : sProp 𝕄)) h8).trans
      (pointsTo_biUnion _ _ d8)

variable {O : CellTallies nD τ sig (HIx 1)} {W : Waits sig (HIx 1)}

/-- A wait that is not the last takes the credit of 128 rows. -/
theorem wp_waitOne {α : Type} {Q : α → sProp 𝕄} {u : ℕ} (hu : u + 65536 ≤ 512 * 1024)
    {og ot : Fin 2 → ℕ} {ig : ∀ a, og a + S128x16.size a ≤ S1024x16.size a} {it : ∀ a, ot a + S4194304x16.size a ≤ S4194304x16.size a}
    {h1 : (tSl it).view.WordExact} {h2 : (gSl ig).view.WordExact} {kk : PUnit → Prog (TpuEff nD τ sig (Elt F) Λ₀ (tV d L).2) α} :
    iprop(rowBatch d L q g tab 1024 u ∗ owes (tV d L) O W ∗ Transfers.MayWaits (tV d L) (default : HIx 1) O)
      ⊢ iprop((iprop(rowBatch d L q g tab 1024 (u + 65536) ∗ owes (tV d L) O (insert (SemLoc.dma cc0_scratch5.sem, (default : HIx 1)) W)) -∗ wp frame (wpE (defs₀ (F := F)) 𝒱₀ (tV d L) none) Set.univ (kk ⟨⟩) Q)
          -∗ wp frame (wpE (defs₀ (F := F)) 𝒱₀ (tV d L) none) Set.univ (.op (.waitDma2 cc0_scratch5.sem (tSl it) (gSl ig) h1 h2) kk) Q) := by
  iintro ⟨HB, HO, Hmw⟩
  iapply (Transfers.wp_waitBatchMulO EC 𝒱₀ (tV d L) none (default : HIx 1) (N := 512) 128 rfl hu)
  isplitl [HB]; · iexact HB
  isplitl [HO]; · iexact HO
  iapply (Transfers.MayWaits.elim (SemLoc.dma cc0_scratch5.sem)) $$ Hmw

/-- The last wait hands every row's pieces back. -/
theorem wp_waitLast {α : Type} {Q : α → sProp 𝕄}
    {og ot : Fin 2 → ℕ} {ig : ∀ a, og a + S128x16.size a ≤ S1024x16.size a} {it : ∀ a, ot a + S4194304x16.size a ≤ S4194304x16.size a}
    {h1 : (tSl it).view.WordExact} {h2 : (gSl ig).view.WordExact} {kk : PUnit → Prog (TpuEff nD τ sig (Elt F) Λ₀ (tV d L).2) α} :
    iprop(rowBatch d L q g tab 1024 458752 ∗ owes (tV d L) O W ∗ Transfers.MayWaits (tV d L) (default : HIx 1) O)
      ⊢ iprop((iprop((((m9).view.loc (tV d L) ↦{fullShare} (gathered g tab : Buf (Elt F) ((m9).view.loc (tV d L)))) ∗ ((m8).view.loc (tV d L) ↦{fullShare} (g : Buf (Elt F) ((m8).view.loc (tV d L)))) ∗ ((tW).view.loc (tV d L) ↦[Finset.univ]{q} (tab : Buf (Elt F) ((tW).view.loc (tV d L)))))
              ∗ semVal (tV d L, .dma cc0_scratch5.sem) 0 ∗ owes (tV d L) O (insert (SemLoc.dma cc0_scratch5.sem, (default : HIx 1)) W)) -∗ wp frame (wpE (defs₀ (F := F)) 𝒱₀ (tV d L) none) Set.univ (kk ⟨⟩) Q)
          -∗ wp frame (wpE (defs₀ (F := F)) 𝒱₀ (tV d L) none) Set.univ (.op (.waitDma2 cc0_scratch5.sem (tSl it) (gSl ig) h1 h2) kk) Q) := by
  rw [pieces_eq]
  iintro ⟨HB, HO, Hmw⟩
  iapply (Transfers.wp_waitBatchAllO EC 𝒱₀ (tV d L) none (default : HIx 1) (N := 512) (J := 65536) (u := 458752) rfl (by decide) (by decide))
  isplitl [HB]; · iexact HB
  isplitl [HO]; · iexact HO
  iapply (Transfers.MayWaits.elim (SemLoc.dma cc0_scratch5.sem)) $$ Hmw

/-- The gathers of the chunks 3 to 7. -/
theorem wp_part5 (hg : ∀ y, (g y).toNat < 4194304) (fr : S1024x16.Idx → Elt F .f32) :
    iprop(bigSep (Transfers.pending 384) (piecesAt d L q g tab fr) ∗ rowBatch d L q g tab 384 0)
      ⊢ wp frame (wpE (defs₀ (F := F)) 𝒱₀ (tV d L) none) Set.univ (k0_part5 (F := F) L xW (Memref.isWhole_whole _) pW (Memref.isWhole_whole _) tW (Memref.isWhole_whole _) oW (Memref.isWhole_whole _)
        m6 (Memref.isWhole_whole _) m7 (Memref.isWhole_whole _) m8 (Memref.isWhole_whole _) m9 (Memref.isWhole_whole _) m10 (Memref.isWhole_whole _)
        cc0_scratch5 cc0_scoped0 cc0_scoped1 cc0_scoped2)
        fun _ => rowBatch d L q g tab 1024 0 := by
  rw [k0_part5_eq_skeleton]
  unfold k0_part5_skel
  iintro H
  iapply (wp_issue (F := F) d L q g tab hg fr (c := 3) (by decide) rfl rfl rfl rfl) $$ H; iintro H
  iapply (wp_issue (F := F) d L q g tab hg fr (c := 4) (by decide) rfl rfl rfl rfl) $$ H; iintro H
  iapply (wp_issue (F := F) d L q g tab hg fr (c := 5) (by decide) rfl rfl rfl rfl) $$ H; iintro H
  iapply (wp_issue (F := F) d L q g tab hg fr (c := 6) (by decide) rfl rfl rfl rfl) $$ H; iintro H
  iapply (wp_issue (F := F) d L q g tab hg fr (c := 7) (by decide) rfl rfl rfl rfl) $$ H; iintro H
  sl_step
  icases H with ⟨-, H⟩
  iexact H

/-- The waits for the chunks 0 to 5. -/
theorem wp_part6 :
    iprop(rowBatch d L q g tab 1024 0 ∗ owes (tV d L) O W ∗ Transfers.MayWaits (tV d L) (default : HIx 1) O)
      ⊢ wp frame (wpE (defs₀ (F := F)) 𝒱₀ (tV d L) none) Set.univ (k0_part6 (F := F) L xW (Memref.isWhole_whole _) pW (Memref.isWhole_whole _) tW (Memref.isWhole_whole _) oW (Memref.isWhole_whole _)
        m6 (Memref.isWhole_whole _) m7 (Memref.isWhole_whole _) m8 (Memref.isWhole_whole _) m9 (Memref.isWhole_whole _) m10 (Memref.isWhole_whole _)
        cc0_scratch5 cc0_scoped0 cc0_scoped1 cc0_scoped2)
        fun _ => iprop(rowBatch d L q g tab 1024 393216 ∗ owes (tV d L) O (insert (SemLoc.dma cc0_scratch5.sem, (default : HIx 1)) W)) := by
  rw [k0_part6_eq_skeleton]
  unfold k0_part6_skel
  iintro ⟨HB, HO, #Hmw⟩
  iapply (wp_waitOne (F := F) d L q g tab (O := O) (u := 0) (by decide)) $$ [HB HO]
  · isplitl [HB]; · iexact HB
    isplitl [HO]; · iexact HO
    iexact Hmw
  iintro ⟨HB, HO⟩
  iapply (wp_waitOne (F := F) d L q g tab (O := O) (u := 65536) (by decide)) $$ [HB HO]
  · isplitl [HB]; · iexact HB
    isplitl [HO]; · iexact HO
    iexact Hmw
  iintro ⟨HB, HO⟩
  iapply (wp_waitOne (F := F) d L q g tab (O := O) (u := 131072) (by decide)) $$ [HB HO]
  · isplitl [HB]; · iexact HB
    isplitl [HO]; · iexact HO
    iexact Hmw
  iintro ⟨HB, HO⟩
  iapply (wp_waitOne (F := F) d L q g tab (O := O) (u := 196608) (by decide)) $$ [HB HO]
  · isplitl [HB]; · iexact HB
    isplitl [HO]; · iexact HO
    iexact Hmw
  iintro ⟨HB, HO⟩
  iapply (wp_waitOne (F := F) d L q g tab (O := O) (u := 262144) (by decide)) $$ [HB HO]
  · isplitl [HB]; · iexact HB
    isplitl [HO]; · iexact HO
    iexact Hmw
  iintro ⟨HB, HO⟩
  iapply (wp_waitOne (F := F) d L q g tab (O := O) (u := 327680) (by decide)) $$ [HB HO]
  · isplitl [HB]; · iexact HB
    isplitl [HO]; · iexact HO
    iexact Hmw
  iintro ⟨HB, HO⟩
  simp only [Prog.bind]
  sl_step
  isplitl [HB]; · iexact HB
  simp only [Finset.insert_idem]
  iexact HO

end Gathers

end Cert.Proof.KernelIdeal

end
-- ==== Proof.KernelIdeal.Row.lean ====
/-
  One row: fetch the row of `x`, fill the list of row numbers, gather the table's rows, sum them and store the mean.
-/
module

public import proofs.«01_k».proof.Proof.KernelIdeal.Waits

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ
local notation "m6" => (Memref.whole Cert.KernelIdeal.cc0_scratch0 : Memref Cert.KernelIdeal.sig Kind.scVector Space.vmem Cert.KernelIdeal.S12288 EltTy.i32)
local notation "m7" => (Memref.whole Cert.KernelIdeal.cc0_scratch1 : Memref Cert.KernelIdeal.sig Kind.scVector Space.vmem Cert.KernelIdeal.S12288 EltTy.i32)
local notation "m8" => (Memref.whole Cert.KernelIdeal.cc0_scratch2 : Memref Cert.KernelIdeal.sig Kind.scVector Space.vmem Cert.KernelIdeal.S8x128 EltTy.i32)
local notation "xW" => (Memref.whole Cert.KernelIdeal.main_arg0_scv : Memref Cert.KernelIdeal.sig Kind.scVector Space.hbm Cert.KernelIdeal.S4096x12288 EltTy.i32)
local notation "pW" => (Memref.whole Cert.KernelIdeal.main_v2_scv : Memref Cert.KernelIdeal.sig Kind.scVector Space.hbm Cert.KernelIdeal.S12288 EltTy.i32)
local notation "tW" => (Memref.whole Cert.KernelIdeal.main_v3_scv : Memref Cert.KernelIdeal.sig Kind.scVector Space.hbm Cert.KernelIdeal.S4194304x16 EltTy.f32)
local notation "oW" => (Memref.whole Cert.KernelIdeal.main_v4_scv : Memref Cert.KernelIdeal.sig Kind.scVector Space.hbm Cert.KernelIdeal.S4096x16 EltTy.f32)
local notation "m9" => (Memref.whole Cert.KernelIdeal.cc0_scratch3 : Memref Cert.KernelIdeal.sig Kind.scVector Space.vmem Cert.KernelIdeal.S1024x16 EltTy.f32)
local notation "m10" => (Memref.whole Cert.KernelIdeal.cc0_scratch4 : Memref Cert.KernelIdeal.sig Kind.scVector Space.vmem Cert.KernelIdeal.S128x16 EltTy.f32)

variable (d : Dev nD) (L : grid0.Coords) (q qx : PosShare TreeShare)
variable (xs : S4096x12288.Idx → BitVec 32) (pv : S12288.Idx → BitVec 32) (tab : S4194304x16.Idx → Elt F .f32)

/-- The row of `x`, and of the result, that the subcore at `L` computes in trip `t`. -/
def rowNo (L : grid0.Coords) (t : ℕ) : ℕ := 256 * (L 1).val + 128 * (L 0).val + t

/-- Row `b` of `x`. -/
def xrow (b : ℕ) : S12288.Idx → BitVec 32 := fun n => xs (iX b (n 0).val)

/-- Row `o` of `x`, as the fetch addresses it. -/
abbrev xSl {o : Fin 2 → ℕ} (inb : ∀ a, o a + S1x12288.size a ≤ S4096x12288.size a) : Memref sig .scVector .hbm S12288 .i32 :=
  ((xW).slice (Rect.unit (s := S4096x12288) o S1x12288.size inb) (fun _ => rfl)).squeeze S12288 squeezes_S1x12288_S12288

theorem rowNo_lt {t : ℕ} (ht : t < 128) : rowNo L t < 4096 := by
  have h0 : (L 0).val < 2 := (L 0).isLt
  have h1 : (L 1).val < 16 := (L 1).isLt
  unfold rowNo
  omega

omit [FloatOps F] [Named F] in
/-- What the fetch reads is the row. -/
theorem xSl_read {b : ℕ} (hb : b < 4096) {o : Fin 2 → ℕ} (ho : o = ![b, 0]) (inb : ∀ a, o a + S1x12288.size a ≤ S4096x12288.size a) :
    ((xSl inb).view.read (Elt F) xs : S12288.Idx → BitVec 32) = xrow xs b := by
  subst ho
  funext x
  have hx : (x 0).val < 12288 := (x 0).isLt
  have e : Shape.reshapeEquiv (squeezes_S1x12288_S12288).numel_eq x = (fun | 0 => ⟨0, by decide⟩ | 1 => ⟨(x 0).val, hx⟩ : S1x12288.Idx) := by
    refine Shape.reshapeEquiv_eq_of_rowMajor _ ?_
    refine (Shape.rowMajor_val_two _).trans (Eq.trans ?_ (Shape.rowMajor_val_one _).symm)
    show 0 * 12288 + (x 0).val = _
    omega
  show xs (((xW).slice (Rect.unit (s := S4096x12288) ![b, 0] S1x12288.size inb) (fun _ => rfl)).view.emb (Shape.reshapeEquiv _ x)) = xs _
  rw [e]
  congr 1
  refine Shape.idx_ext₂ ?_ ?_
  · show b + 1 * 0 = b % 4096
    omega
  · show 0 + 1 * (x 0).val = (x 0).val % 12288
    omega

omit [FloatOps F] [Named F] in
/-- A view's elements, lent out of a whole buffer and given back. -/
theorem slice_split (c : Thread nD τ) {sp : Space} {s : Shape} {e : EltTy} (v : Memref sig c.2.kind sp s e) (q : PosShare TreeShare) (f : Buf (Elt F) (v.view.loc c)) :
    (v.view.loc c ↦[Finset.univ]{q} f : sProp 𝕄)
      ⊢ iprop((v.view.loc c ↦[v.view.set]{q} f) ∗ ((v.view.loc c ↦[v.view.set]{q} f) -∗ (v.view.loc c ↦[Finset.univ]{q} f))) := by
  iintro H
  ihave H' := (pointsTo_split_subset (q := q) (f := f) (S := Finset.univ) (Finset.subset_univ v.view.set)).1 $$ H
  icases H' with ⟨H1, H2⟩
  isplitl [H1]; · iexact H1
  iintro H1
  iapply (pointsTo_split_subset (q := q) (f := f) (S := Finset.univ) (Finset.subset_univ v.view.set)).2
  isplitl [H1] <;> iassumption

theorem heldPX_eq (xr : S12288.Idx → BitVec 32) :
    heldPX (F := F) d L pv xr = iprop(((m6).view.loc (tV d L) ↦{fullShare} (pv : Buf (Elt F) ((m6).view.loc (tV d L)))) ∗ ((m7).view.loc (tV d L) ↦{fullShare} (xr : Buf (Elt F) ((m7).view.loc (tV d L))))) := rfl

/-- What the subcore holds between rows, apart from the block of means, with the semaphores' debts. -/
def held (O : CellTallies nD τ sig (HIx 1)) (W : Waits sig (HIx 1)) : sProp 𝕄 :=
  iprop(Transfers.MayWaits (tV d L) (default : HIx 1) O ∗ ((m6).view.loc (tV d L) ↦{fullShare} (pv : Buf (Elt F) ((m6).view.loc (tV d L)))) ∗ (∃ xr : S12288.Idx → BitVec 32, ((m7).view.loc (tV d L) ↦{fullShare} (xr : Buf (Elt F) ((m7).view.loc (tV d L))))) ∗ (∃ f : S8x128.Idx → BitVec 32, ((m8).view.loc (tV d L) ↦{fullShare} (f : Buf (Elt F) ((m8).view.loc (tV d L)))))
    ∗ (∃ fr : S1024x16.Idx → Elt F .f32, ((m9).view.loc (tV d L) ↦{fullShare} (fr : Buf (Elt F) ((m9).view.loc (tV d L))))) ∗ ((xW).view.loc (tV d L) ↦[Finset.univ]{qx} (xs : Buf (Elt F) ((xW).view.loc (tV d L)))) ∗ ((tW).view.loc (tV d L) ↦[Finset.univ]{q} (tab : Buf (Elt F) ((tW).view.loc (tV d L)))) ∗ semVal (tV d L, .dma cc0_scratch5.sem) 0 ∗ semVal (tV d L, .dma cc0_scoped1.sem) 0
    ∗ ∃ W', ⌜∀ p ∈ W', p ∈ W ∨ p.2 = none⌝ ∗ owes (tV d L) O W')

variable {O : CellTallies nD τ sig (HIx 1)}

theorem pieces_in (g : S8x128.Idx → BitVec 32) (fr : S1024x16.Idx → Elt F .f32) :
    iprop(((m9).view.loc (tV d L) ↦{fullShare} (fr : Buf (Elt F) ((m9).view.loc (tV d L)))) ∗ ((m8).view.loc (tV d L) ↦{fullShare} (g : Buf (Elt F) ((m8).view.loc (tV d L)))) ∗ ((tW).view.loc (tV d L) ↦[Finset.univ]{q} (tab : Buf (Elt F) ((tW).view.loc (tV d L)))))
      ⊢ (bigSep (Transfers.pending 0) (piecesAt d L q g tab fr) : sProp 𝕄) := by
  rw [Transfers.pending_zero]
  exact Entails.of_eq (pieces_eq (F := F) d L q g tab fr)

/-- The fetch of the row, the list of row numbers, and the first three gathers. -/
theorem wp_part4 (hpv : PermOK pv) (hxs : BitsOK xs) (v2 : BitVec 32) (t : Fin k0_t1_loop.trips) {W : Waits sig (HIx 1)}
    (xr : S12288.Idx → BitVec 32) (f : S8x128.Idx → BitVec 32) (fr : S1024x16.Idx → Elt F .f32) :
    iprop(Transfers.MayWaits (tV d L) (default : HIx 1) O ∗ heldPX (F := F) d L pv xr ∗ ((m8).view.loc (tV d L) ↦{fullShare} (f : Buf (Elt F) ((m8).view.loc (tV d L)))) ∗ ((m9).view.loc (tV d L) ↦{fullShare} (fr : Buf (Elt F) ((m9).view.loc (tV d L)))) ∗ ((xW).view.loc (tV d L) ↦[Finset.univ]{qx} (xs : Buf (Elt F) ((xW).view.loc (tV d L)))) ∗ ((tW).view.loc (tV d L) ↦[Finset.univ]{q} (tab : Buf (Elt F) ((tW).view.loc (tV d L)))) ∗ semVal (tV d L, .dma cc0_scratch5.sem) 0 ∗ semVal (tV d L, .dma cc0_scoped1.sem) 0 ∗ owes (tV d L) O W)
      ⊢ wp frame (wpE (defs₀ (F := F)) 𝒱₀ (tV d L) none) Set.univ (k0_part4 (F := F) L xW (Memref.isWhole_whole _) pW (Memref.isWhole_whole _) tW (Memref.isWhole_whole _) oW (Memref.isWhole_whole _)
        m6 (Memref.isWhole_whole _) m7 (Memref.isWhole_whole _) m8 (Memref.isWhole_whole _) m9 (Memref.isWhole_whole _) m10 (Memref.isWhole_whole _)
        cc0_scratch5 cc0_scoped0 cc0_scoped1 cc0_scoped2 v2 k0_pay1 0#32 1#32 t)
        fun _ => iprop(heldPX (F := F) d L pv (xrow xs (rowNo L t.val)) ∗ ((xW).view.loc (tV d L) ↦[Finset.univ]{qx} (xs : Buf (Elt F) ((xW).view.loc (tV d L)))) ∗ semVal (tV d L, .dma cc0_scoped1.sem) 0
          ∗ (bigSep (Transfers.pending 384) (piecesAt d L q (gidAt (xrow xs (rowNo L t.val)) pv) tab fr) ∗ rowBatch d L q (gidAt (xrow xs (rowNo L t.val)) pv) tab 384 0)
          ∗ owes (tV d L) O (insert (SemLoc.dma cc0_scoped1.sem, (default : HIx 1)) W)) := by
  have ht : t.val < 128 := t1_trips ▸ t.isLt
  have hg := gidAt_lt (xrow xs (rowNo L t.val)) pv (fun _ => hxs _)
  have hset : (m7).view.set = (Finset.univ : Finset S12288.Idx) := View.set_whole _
  rw [k0_part4_eq_skeleton]
  unfold k0_part4_skel
  simp only [Prog.lift, Prog.bind_op, Prog.bind_ret]
  iintro ⟨Hmw, H67, H8, H9, Hx, Ht, Hs5, Hs1, HO⟩
  ihave H67 := (Entails.of_eq (heldPX_eq (F := F) d L pv xr)) $$ H67
  icases H67 with ⟨H6, H7⟩
  ihave Hxs := (slice_split (F := F) (tV d L) (xSl (k0_off1_inb L t)) qx xs) $$ Hx
  icases Hxs with ⟨Hxs, Hxr⟩
  iapply (wp_copyWait (F := F) (c := tV d L) (src := xSl (k0_off1_inb L t)) (dst := m7) (sem := cc0_scoped1.sem) (Sd := Finset.univ) (fs := xs) (fd := xr) (by decide) (Finset.subset_univ _)) $$ [Hxs H7 Hs1 HO Hmw]
  · isplitl [Hxs]; · iexact Hxs
    isplitl [H7]; · iexact H7
    isplitl [Hs1]; · iexact Hs1
    isplitl [HO] <;> iassumption
  iintro ⟨H7, Hxs, Hs1, HO⟩
  ihave Hx := Hxr $$ Hxs
  have hw : (m7).view.write (Elt F) xr ((xSl (k0_off1_inb L t)).view.read (Elt F) xs) Finset.univ = xrow xs (rowNo L t.val) := by
    rw [View.write_whole_univ]
    exact xSl_read (F := F) xs (rowNo_lt L ht) (k0_off1_eq L t) (k0_off1_inb L t)
  ihave H7 := (Entails.of_eq (congrArg (fun w : S12288.Idx → BitVec 32 => (((m7).view.loc (tV d L) ↦{fullShare} (w : Buf (Elt F) ((m7).view.loc (tV d L)))) : sProp 𝕄)) hw)) $$ H7
  rw [wp_bind]
  ihave H1 := (wp_fill (F := F) d L (xr := xrow xs (rowNo L t.val)) hpv v2 t f) $$ [H6 H7 H8]
  · isplitl [H6 H7]
    · iapply (Entails.of_eq (heldPX_eq (F := F) d L pv (xrow xs (rowNo L t.val))).symm)
      isplitl [H6] <;> iassumption
    iexact H8
  iapply (wp_wand _ _ _) $$ H1
  iintro %_ ⟨H, H8⟩
  ihave HP := (pieces_in (F := F) d L q tab (gidAt (xrow xs (rowNo L t.val)) pv) fr) $$ [H9 H8 Ht]
  · isplitl [H9]; · iexact H9
    isplitl [H8] <;> iassumption
  imod (Transfers.batch_alloc' EC (tV d L) (default : HIx 1) 512 (piecesAt d L q (gidAt (xrow xs (rowNo L t.val)) pv) tab (gathered (gidAt (xrow xs (rowNo L t.val)) pv) tab)) (sm := .dma cc0_scratch5.sem)) $$ Hs5 with HB
  icombine HP HB as HG
  iapply (wp_issue (F := F) d L q (gidAt (xrow xs (rowNo L t.val)) pv) tab hg fr (c := 0) (by decide) rfl rfl rfl rfl) $$ HG; iintro HG
  iapply (wp_issue (F := F) d L q (gidAt (xrow xs (rowNo L t.val)) pv) tab hg fr (c := 1) (by decide) rfl rfl rfl rfl) $$ HG; iintro HG
  iapply (wp_issue (F := F) d L q (gidAt (xrow xs (rowNo L t.val)) pv) tab hg fr (c := 2) (by decide) rfl rfl rfl rfl) $$ HG; iintro HG
  sl_step
  isplitl [H]; · iexact H
  isplitl [Hx]; · iexact Hx
  isplitl [Hs1]; · iexact Hs1
  isplitl [HG] <;> iassumption

/-! ## The row -/

/-- The rows of the block of means that are in place: those of the first `n` trips. -/
def RowsDone (o : S128x16.Idx → Elt F .f32) (n : ℕ) : Prop := ∀ y : S128x16.Idx, (y 0).val < n → o y = meanOf (rowVal (xrow xs (rowNo L (y 0).val)) pv tab) (y 1)

omit [FloatOps F] [Named F] in
/-- The gathered block is the one the row numbers name. -/
theorem gathered_eq (xr : S12288.Idx → BitVec 32) : gathered (gidAt xr pv) tab = rowVal xr pv tab := by
  funext y
  have hy : (y 0).val < 1024 := (y 0).isLt
  show tab (iT (gidAt xr pv (posOf (y 0).val)).toNat (y 1)) = tab (iT (gid xr pv (y 0).val).toNat (y 1))
  refine congrArg (fun n => tab (iT (gid xr pv n).toNat (y 1))) ?_
  show 128 * ((y 0).val / 128 % 8) + (y 0).val % 128 = (y 0).val
  omega

theorem off16_loc (o : S128x16.Idx → Elt F .f32) (t : Fin k0_t1_loop.trips) : (((m10).view.loc (tV d L) ↦{fullShare} (o : Buf (Elt F) ((m10).view.loc (tV d L)))) : sProp 𝕄)
    = (((m10).access (Rect.unit (s := S128x16) (k0_off16 t) S1x16.size (k0_off16_inb t))).loc (tV d L) ↦{fullShare} (o : Buf (Elt F) ((m10).view.loc (tV d L)))) := rfl

/-- Storing a row's mean puts one more row in place. -/
theorem rows_step {o : S128x16.Idx → Elt F .f32} (t : Fin k0_t1_loop.trips) (ho : RowsDone L xs pv tab o t.val) :
    RowsDone L xs pv tab (((m10).access (Rect.unit (s := S128x16) (k0_off16 t) S1x16.size (k0_off16_inb t))).write (Elt F) o
      (shapeCast S1x16 (k0_pay4 (sumTo (rowVal (xrow xs (rowNo L t.val)) pv tab) 1024)) shapeCasts_S16_S1x16) Finset.univ) (t.val + 1) := by
  intro y hy
  generalize k0_off16_inb t = inb
  revert inb
  rw [k0_off16_eq]
  intro inb
  have h1 : (y 1).val < 16 := (y 1).isLt
  by_cases hin : (y 0).val = t.val
  · let x : S1x16.Idx := fun | 0 => ⟨0, by decide⟩ | 1 => ⟨(y 1).val, h1⟩
    have hx : ((m10).access (Rect.unit (s := S128x16) ![t.val, 0] S1x16.size inb)).emb x = y := by
      refine Shape.idx_ext₂ ?_ ?_
      · show t.val + 1 * 0 = (y 0).val
        omega
      · show 0 + 1 * (y 1).val = (y 1).val
        omega
    rw [← hx]
    refine (View.write_emb_of_mem _ _ (Finset.mem_univ x)).trans ?_
    refine ((cast_eq _ _).trans (shapeCast_addUnit_apply _ _ _ x)).trans ?_
    rw [hx, hin]
    unfold meanOf
    congr 1
    funext a
    match a with
    | 0 => rfl
  · refine (View.write_of_not_mem _ _ _ ?_).trans (ho y (by omega))
    intro hm
    obtain ⟨x, -, hx⟩ := Finset.mem_map.mp hm
    have e0 : t.val + 1 * (x 0).val = (y 0).val := congrArg (fun z : S128x16.Idx => (z 0).val) hx
    have x0 : (x 0).val < 1 := (x 0).isLt
    omega

/-- One row: what the subcore holds comes back, with one more row in place. -/
theorem wp_row (hpv : PermOK pv) (hxs : BitsOK xs) (v2 : BitVec 32) (t : Fin k0_t1_loop.trips) {W : Waits sig (HIx 1)}
    (o : S128x16.Idx → Elt F .f32) (ho : RowsDone L xs pv tab o t.val) :
    iprop(held d L q qx xs pv tab O W ∗ ((m10).view.loc (tV d L) ↦{fullShare} (o : Buf (Elt F) ((m10).view.loc (tV d L)))))
      ⊢ wp frame (wpE (defs₀ (F := F)) 𝒱₀ (tV d L) none) Set.univ (k0_t1_body (F := F) L xW (Memref.isWhole_whole _) pW (Memref.isWhole_whole _) tW (Memref.isWhole_whole _) oW (Memref.isWhole_whole _)
        m6 (Memref.isWhole_whole _) m7 (Memref.isWhole_whole _) m8 (Memref.isWhole_whole _) m9 (Memref.isWhole_whole _) m10 (Memref.isWhole_whole _)
        cc0_scratch5 cc0_scoped0 cc0_scoped1 cc0_scoped2 v2 t ⟨⟩)
        fun _ => iprop(held d L q qx xs pv tab O W ∗ ∃ o' : S128x16.Idx → Elt F .f32, ⌜RowsDone L xs pv tab o' (t.val + 1)⌝ ∗ ((m10).view.loc (tV d L) ↦{fullShare} (o' : Buf (Elt F) ((m10).view.loc (tV d L))))) := by
  unfold held k0_t1_body
  iintro ⟨⟨#Hmw, H6, ⟨%xr, H7⟩, ⟨%f, H8⟩, ⟨%fr, H9⟩, Hx, Ht, Hs5, Hs1, %W', %hW', HO⟩, H10⟩
  rw [wp_bind]
  ihave H1 := (wp_part4 (F := F) d L q qx xs pv tab (O := O) (W := W') hpv hxs v2 t xr f fr) $$ [H6 H7 H8 H9 Hx Ht Hs5 Hs1 HO]
  · isplitr; · iexact Hmw
    isplitl [H6 H7]
    · iapply (Entails.of_eq (heldPX_eq (F := F) d L pv xr).symm)
      isplitl [H6] <;> iassumption
    isplitl [H8]; · iexact H8
    isplitl [H9]; · iexact H9
    isplitl [Hx]; · iexact Hx
    isplitl [Ht]; · iexact Ht
    isplitl [Hs5]; · iexact Hs5
    isplitl [Hs1] <;> iassumption
  iapply (wp_wand _ _ _) $$ H1
  iintro %_ ⟨H67, Hx, Hs1, HG, HO⟩
  dsimp only
  rw [wp_bind]
  ihave H1 := (wp_part5 (F := F) d L q (gidAt (xrow xs (rowNo L t.val)) pv) tab (gidAt_lt (xrow xs (rowNo L t.val)) pv (fun _ => hxs _)) fr) $$ HG
  iapply (wp_wand _ _ _) $$ H1
  iintro %_ HB
  rw [wp_bind]
  ihave H1 := (wp_part6 (F := F) d L q (gidAt (xrow xs (rowNo L t.val)) pv) tab (O := O)) $$ [HB HO]
  · isplitl [HB]; · iexact HB
    isplitl [HO] <;> iassumption
  iapply (wp_wand _ _ _) $$ H1
  iintro %_ ⟨HB, HO⟩
  iapply (wp_waitOne (F := F) d L q (gidAt (xrow xs (rowNo L t.val)) pv) tab (O := O) (u := 393216) (by decide)) $$ [HB HO]
  · isplitl [HB]; · iexact HB
    isplitl [HO] <;> iassumption
  iintro ⟨HB, HO⟩
  iapply (wp_waitLast (F := F) d L q (gidAt (xrow xs (rowNo L t.val)) pv) tab (O := O)) $$ [HB HO]
  · isplitl [HB]; · iexact HB
    isplitl [HO] <;> iassumption
  iintro ⟨⟨H9, H8, Ht⟩, Hs5, HO⟩
  simp only [Prog.bind]
  rw [wp_bind]
  ihave H1 := (wp_sum (F := F) d L (gathered (gidAt (xrow xs (rowNo L t.val)) pv) tab)) $$ H9
  iapply (wp_wand _ _ _) $$ H1
  iintro %r ⟨%hr, H9⟩
  rw [gathered_eq] at hr
  subst hr
  iapply (wp_load 𝒱₀ (tV d L) none Set.univ (m := m10) (S := Finset.univ) (Finset.subset_univ _)) $$ H10; iintro H10
  ihave H10 := (Entails.of_eq (off16_loc (F := F) d L o t)) $$ H10
  iapply (wp_store 𝒱₀ (tV d L) none Set.univ (m := m10) (Mk := Finset.univ) (S := Finset.univ) (Finset.subset_univ _)) $$ H10; iintro H10
  simp only [Prog.bind]
  sl_step
  ihave H67 := (Entails.of_eq (heldPX_eq (F := F) d L pv (xrow xs (rowNo L t.val)))) $$ H67
  icases H67 with ⟨H6, H7⟩
  isplitr [H10]
  · isplitr; · iexact Hmw
    isplitl [H6]; · iexact H6
    isplitl [H7]; · iexists _; iexact H7
    isplitl [H8]; · iexists _; iexact H8
    isplitl [H9]; · iexists _; iexact H9
    isplitl [Hx]; · iexact Hx
    isplitl [Ht]; · iexact Ht
    isplitl [Hs5]; · iexact Hs5
    isplitl [Hs1]; · iexact Hs1
    iexists _
    isplitr
    swap
    · iexact HO
    ipureintro
    simp only [Finset.insert_idem]
    intro p hp
    rcases Finset.mem_insert.mp hp with rfl | hp
    · exact .inr rfl
    rcases Finset.mem_insert.mp hp with rfl | hp
    · exact .inr rfl
    exact hW' p hp
  · iexists _
    isplitr
    swap
    · iapply (Entails.of_eq (off16_loc (F := F) d L _ t).symm); iexact H10
    ipureintro
    exact rows_step L xs pv tab t ho

end Cert.Proof.KernelIdeal

end
-- ==== Proof.KernelIdeal.Tile.lean ====
/-
  A subcore's task: fetch the permuted mapping, compute the means of 128 rows, and write them out.
-/
module

public import proofs.«01_k».proof.Proof.KernelIdeal.Row

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ
local notation "m6" => (Memref.whole Cert.KernelIdeal.cc0_scratch0 : Memref Cert.KernelIdeal.sig Kind.scVector Space.vmem Cert.KernelIdeal.S12288 EltTy.i32)
local notation "m7" => (Memref.whole Cert.KernelIdeal.cc0_scratch1 : Memref Cert.KernelIdeal.sig Kind.scVector Space.vmem Cert.KernelIdeal.S12288 EltTy.i32)
local notation "m8" => (Memref.whole Cert.KernelIdeal.cc0_scratch2 : Memref Cert.KernelIdeal.sig Kind.scVector Space.vmem Cert.KernelIdeal.S8x128 EltTy.i32)
local notation "xW" => (Memref.whole Cert.KernelIdeal.main_arg0_scv : Memref Cert.KernelIdeal.sig Kind.scVector Space.hbm Cert.KernelIdeal.S4096x12288 EltTy.i32)
local notation "pW" => (Memref.whole Cert.KernelIdeal.main_v2_scv : Memref Cert.KernelIdeal.sig Kind.scVector Space.hbm Cert.KernelIdeal.S12288 EltTy.i32)
local notation "tW" => (Memref.whole Cert.KernelIdeal.main_v3_scv : Memref Cert.KernelIdeal.sig Kind.scVector Space.hbm Cert.KernelIdeal.S4194304x16 EltTy.f32)
local notation "oW" => (Memref.whole Cert.KernelIdeal.main_v4_scv : Memref Cert.KernelIdeal.sig Kind.scVector Space.hbm Cert.KernelIdeal.S4096x16 EltTy.f32)
local notation "m9" => (Memref.whole Cert.KernelIdeal.cc0_scratch3 : Memref Cert.KernelIdeal.sig Kind.scVector Space.vmem Cert.KernelIdeal.S1024x16 EltTy.f32)
local notation "m10" => (Memref.whole Cert.KernelIdeal.cc0_scratch4 : Memref Cert.KernelIdeal.sig Kind.scVector Space.vmem Cert.KernelIdeal.S128x16 EltTy.f32)

variable (d : Dev nD) (L : grid0.Coords) (q qx qp : PosShare TreeShare)
variable (xs : S4096x12288.Idx → BitVec 32) (pv : S12288.Idx → BitVec 32) (tab : S4194304x16.Idx → Elt F .f32)
variable {O : CellTallies nD τ sig (HIx 1)}

/-! ## The rows in turn -/

/-- What the loop over the rows keeps: all that is held, and the rows of the finished trips in place. -/
def rowsInv (O : CellTallies nD τ sig (HIx 1)) (W : Waits sig (HIx 1)) (k : ℕ) : sProp 𝕄 :=
  iprop(held d L q qx xs pv tab O W ∗ ∃ o : S128x16.Idx → Elt F .f32, ⌜RowsDone L xs pv tab o k⌝ ∗ ((m10).view.loc (tV d L) ↦{fullShare} (o : Buf (Elt F) ((m10).view.loc (tV d L)))))

/-- One trip takes the loop's invariant one row on. -/
theorem wp_row_inv (hpv : PermOK pv) (hxs : BitsOK xs) (v2 : BitVec 32) (t : Fin k0_t1_loop.trips) {W : Waits sig (HIx 1)} :
    rowsInv d L q qx xs pv tab O W t.val
      ⊢ wp frame (wpE (defs₀ (F := F)) 𝒱₀ (tV d L) none) Set.univ (k0_t1_body (F := F) L xW (Memref.isWhole_whole _) pW (Memref.isWhole_whole _) tW (Memref.isWhole_whole _) oW (Memref.isWhole_whole _)
        m6 (Memref.isWhole_whole _) m7 (Memref.isWhole_whole _) m8 (Memref.isWhole_whole _) m9 (Memref.isWhole_whole _) m10 (Memref.isWhole_whole _)
        cc0_scratch5 cc0_scoped0 cc0_scoped1 cc0_scoped2 v2 t ⟨⟩)
        fun _ => rowsInv d L q qx xs pv tab O W (t.val + 1) := by
  unfold rowsInv
  iintro ⟨H, %o, %ho, H10⟩
  iapply (wp_row (F := F) d L q qx xs pv tab (O := O) hpv hxs v2 t o ho) $$ [H H10]
  isplitl [H] <;> iassumption

/-- The loop over the rows: all 128 rows are in place. -/
theorem wp_rows (hpv : PermOK pv) (hxs : BitsOK xs) (v2 : BitVec 32) {W : Waits sig (HIx 1)} (o : S128x16.Idx → Elt F .f32) :
    iprop(held d L q qx xs pv tab O W ∗ ((m10).view.loc (tV d L) ↦{fullShare} (o : Buf (Elt F) ((m10).view.loc (tV d L)))))
      ⊢ wp frame (wpE (defs₀ (F := F)) 𝒱₀ (tV d L) none) Set.univ
        (Scf.Loop.for k0_t1_loop k0_t1_ok ⟨⟩ (k0_t1_body (F := F) L xW (Memref.isWhole_whole _) pW (Memref.isWhole_whole _) tW (Memref.isWhole_whole _) oW (Memref.isWhole_whole _)
        m6 (Memref.isWhole_whole _) m7 (Memref.isWhole_whole _) m8 (Memref.isWhole_whole _) m9 (Memref.isWhole_whole _) m10 (Memref.isWhole_whole _)
        cc0_scratch5 cc0_scoped0 cc0_scoped1 cc0_scoped2 v2))
        fun _ => rowsInv d L q qx xs pv tab O W 128 := by
  have ht : Scf.trips k0_t1_loop.lb k0_t1_loop.ub k0_t1_loop.st = 128 := t1_trips
  iintro ⟨H, H10⟩
  sl_for (fun (k : ℕ) (_ : PUnit) => rowsInv d L q qx xs pv tab O W k) $$ [H H10]
  case region =>
    intro k acc
    exact wp_row_inv (F := F) d L q qx xs pv tab hpv hxs v2 k
  isplitl [H H10]
  · unfold rowsInv
    isplitl [H]; · iexact H
    iexists o
    isplitr
    swap
    · iexact H10
    ipureintro
    intro y hy
    exact absurd hy (Nat.not_lt_zero _)
  · iintro %_ H
    rw [ht]
    iexact H

/-! ## The block of the result -/

/-- The rows of the result that the subcore at `L` writes. -/
abbrev oSl (L : grid0.Coords) : Memref sig .scVector .hbm S128x16 .f32 :=
  (oW).slice (Rect.unit (s := S4096x16) (k0_off17 L) S128x16.size (k0_off17_inb L)) (fun _ => rfl)

omit [FloatOps F] [Named F] in
/-- The element of the result at place `x` of the subcore's block. -/
theorem oSl_emb (x : S128x16.Idx) : (((oSl L).view.emb x : S4096x16.Idx) 0).val = rowNo L (x 0).val ∧ (((oSl L).view.emb x : S4096x16.Idx) 1).val = (x 1).val := by
  unfold oSl
  generalize k0_off17_inb L = inb
  revert inb
  rw [k0_off17_eq]
  intro inb
  constructor
  · show 256 * (L 1).val + 128 * (L 0).val + 1 * (x 0).val = 256 * (L 1).val + 128 * (L 0).val + (x 0).val
    omega
  · show 0 + 1 * (x 1).val = (x 1).val
    omega

/-- The block written out is the kernel's value on the subcore's rows. -/
theorem out_eq {o : S128x16.Idx → Elt F .f32} (ho : RowsDone L xs pv tab o 128) (f0 : S4096x16.Idx → Elt F .f32) :
    ∀ y ∈ (oSl L).view.set, ((oSl L).view.write (Elt F) f0 ((m10).view.read (Elt F) o) Finset.univ : S4096x16.Idx → Elt F .f32) y = outVal xs pv tab y := by
  intro y hy
  obtain ⟨x, -, rfl⟩ := Finset.mem_map.mp hy
  obtain ⟨e0, e1⟩ := oSl_emb L x
  have hx0 : (x 0).val < 128 := (x 0).isLt
  refine (View.write_emb_of_mem _ _ (Finset.mem_univ x)).trans ?_
  refine (cast_eq _ _).trans ?_
  refine (ho x hx0).trans ?_
  unfold outVal xrow
  rw [e0]
  exact congrArg _ (Fin.ext e1.symm)

/-! ## The task -/

/-- The task on the subcore at `L`: the shares it reads come back, its block of the result holds the kernel's value. -/
theorem wp_task (hpv : PermOK pv) (hxs : BitsOK xs) {W : Waits sig (HIx 1)} (f0 : S4096x16.Idx → Elt F .f32) :
    (iprop(Transfers.MayWaits (tV d L) (default : HIx 1) O ∗ ((xW).view.loc (tV d L) ↦[Finset.univ]{qx} (xs : Buf (Elt F) ((xW).view.loc (tV d L)))) ∗ ((pW).view.loc (tV d L) ↦[Finset.univ]{qp} (pv : Buf (Elt F) ((pW).view.loc (tV d L)))) ∗ ((tW).view.loc (tV d L) ↦[Finset.univ]{q} (tab : Buf (Elt F) ((tW).view.loc (tV d L)))) ∗ ((oSl L).view.loc (tV d L) ↦[(oSl L).view.set]{fullShare} (f0 : Buf (Elt F) ((oSl L).view.loc (tV d L))))
    ∗ ((∃ f : S12288.Idx → BitVec 32, ((m6).view.loc (tV d L) ↦{fullShare} (f : Buf (Elt F) ((m6).view.loc (tV d L))))) ∗ (∃ f : S12288.Idx → BitVec 32, ((m7).view.loc (tV d L) ↦{fullShare} (f : Buf (Elt F) ((m7).view.loc (tV d L)))))
    ∗ (∃ f : S8x128.Idx → BitVec 32, ((m8).view.loc (tV d L) ↦{fullShare} (f : Buf (Elt F) ((m8).view.loc (tV d L))))) ∗ (∃ f : S1024x16.Idx → Elt F .f32, ((m9).view.loc (tV d L) ↦{fullShare} (f : Buf (Elt F) ((m9).view.loc (tV d L)))))
    ∗ (∃ f : S128x16.Idx → Elt F .f32, ((m10).view.loc (tV d L) ↦{fullShare} (f : Buf (Elt F) ((m10).view.loc (tV d L))))))
    ∗ (semVal (tV d L, .dma cc0_scratch5.sem) 0 ∗ semVal (tV d L, .dma cc0_scoped0.sem) 0 ∗ semVal (tV d L, .dma cc0_scoped1.sem) 0 ∗ semVal (tV d L, .dma cc0_scoped2.sem) 0) ∗ owes (tV d L) O W) : sProp 𝕄)
      ⊢ wp frame (wpE (defs₀ (F := F)) 𝒱₀ (tV d L) none) Set.univ (cc0_k (F := F) L xW (Memref.isWhole_whole _) pW (Memref.isWhole_whole _) tW (Memref.isWhole_whole _) oW (Memref.isWhole_whole _)
        m6 (Memref.isWhole_whole _) m7 (Memref.isWhole_whole _) m8 (Memref.isWhole_whole _) m9 (Memref.isWhole_whole _) m10 (Memref.isWhole_whole _)
        cc0_scratch5 cc0_scoped0 cc0_scoped1 cc0_scoped2)
        fun _ => iprop(((xW).view.loc (tV d L) ↦[Finset.univ]{qx} (xs : Buf (Elt F) ((xW).view.loc (tV d L)))) ∗ ((pW).view.loc (tV d L) ↦[Finset.univ]{qp} (pv : Buf (Elt F) ((pW).view.loc (tV d L)))) ∗ ((tW).view.loc (tV d L) ↦[Finset.univ]{q} (tab : Buf (Elt F) ((tW).view.loc (tV d L)))) ∗ ((oSl L).view.loc (tV d L) ↦[(oSl L).view.set]{fullShare} (outVal xs pv tab : Buf (Elt F) ((oSl L).view.loc (tV d L))))
    ∗ ((∃ f : S12288.Idx → BitVec 32, ((m6).view.loc (tV d L) ↦{fullShare} (f : Buf (Elt F) ((m6).view.loc (tV d L))))) ∗ (∃ f : S12288.Idx → BitVec 32, ((m7).view.loc (tV d L) ↦{fullShare} (f : Buf (Elt F) ((m7).view.loc (tV d L)))))
    ∗ (∃ f : S8x128.Idx → BitVec 32, ((m8).view.loc (tV d L) ↦{fullShare} (f : Buf (Elt F) ((m8).view.loc (tV d L))))) ∗ (∃ f : S1024x16.Idx → Elt F .f32, ((m9).view.loc (tV d L) ↦{fullShare} (f : Buf (Elt F) ((m9).view.loc (tV d L)))))
    ∗ (∃ f : S128x16.Idx → Elt F .f32, ((m10).view.loc (tV d L) ↦{fullShare} (f : Buf (Elt F) ((m10).view.loc (tV d L))))))
    ∗ (semVal (tV d L, .dma cc0_scratch5.sem) 0 ∗ semVal (tV d L, .dma cc0_scoped0.sem) 0 ∗ semVal (tV d L, .dma cc0_scoped1.sem) 0 ∗ semVal (tV d L, .dma cc0_scoped2.sem) 0) ∗ ∃ W', ⌜∀ p ∈ W', p ∈ W ∨ p.2 = none⌝ ∗ owes (tV d L) O W') := by
  have hset6 : (m6).view.set = (Finset.univ : Finset S12288.Idx) := View.set_whole _
  rw [cc0_k_eq_skeleton]
  unfold cc0_k_skel
  simp only [Prog.lift, Prog.bind_op, Prog.bind_ret]
  iintro ⟨#Hmw, Hx, Hp, Ht, Ho, ⟨⟨%f6, H6⟩, ⟨%f7, H7⟩, ⟨%f8, H8⟩, ⟨%f9, H9⟩, ⟨%f10, H10⟩⟩, ⟨Hs5, Hs0, Hs1, Hs2⟩, HO⟩
  ihave Hps := (slice_split (F := F) (tV d L) pW qp pv) $$ Hp
  icases Hps with ⟨Hps, Hpr⟩
  iapply (wp_copyWait (F := F) (c := tV d L) (src := pW) (dst := m6) (sem := cc0_scoped0.sem) (Sd := Finset.univ) (fs := pv) (fd := f6) (by decide) (Finset.subset_univ _)) $$ [Hps H6 Hs0 HO]
  · isplitl [Hps]; · iexact Hps
    isplitl [H6]; · iexact H6
    isplitl [Hs0]; · iexact Hs0
    isplitl [HO]; · iexact HO
    iexact Hmw
  iintro ⟨H6, Hps, Hs0, HO⟩
  ihave Hp := Hpr $$ Hps
  have hw : (m6).view.write (Elt F) f6 ((pW).view.read (Elt F) pv) Finset.univ = pv := by
    rw [View.write_whole_univ]
    rfl
  ihave H6 := (Entails.of_eq (congrArg (fun w : S12288.Idx → BitVec 32 => (((m6).view.loc (tV d L) ↦{fullShare} (w : Buf (Elt F) ((m6).view.loc (tV d L)))) : sProp 𝕄)) hw)) $$ H6
  rw [wp_bind]
  ihave H1 := (wp_rows (F := F) d L q qx xs pv tab (O := O) (W := insert (SemLoc.dma cc0_scoped0.sem, (default : HIx 1)) W) hpv hxs _ f10) $$ [H6 H7 H8 H9 H10 Hx Ht Hs5 Hs1 HO]
  · isplitr [H10]
    · unfold held
      isplitr; · iexact Hmw
      isplitl [H6]; · iexact H6
      isplitl [H7]; · iexists _; iexact H7
      isplitl [H8]; · iexists _; iexact H8
      isplitl [H9]; · iexists _; iexact H9
      isplitl [Hx]; · iexact Hx
      isplitl [Ht]; · iexact Ht
      isplitl [Hs5]; · iexact Hs5
      isplitl [Hs1]; · iexact Hs1
      iexists _
      isplitr
      swap
      · iexact HO
      ipureintro
      exact fun p hp => .inl hp
    · iexact H10
  iapply (wp_wand _ _ _) $$ H1
  iintro %_ H
  unfold rowsInv held
  icases H with ⟨⟨-, H6, ⟨%xr, H7⟩, ⟨%g8, H8⟩, ⟨%g9, H9⟩, Hx, Ht, Hs5, Hs1, %W1, %hW1, HO⟩, %o, %ho, H10⟩
  ihave H10s := (slice_split (F := F) (tV d L) m10 fullShare o) $$ H10
  icases H10s with ⟨H10s, H10r⟩
  iapply (wp_copyWait (F := F) (c := tV d L) (src := m10) (dst := oSl L) (sem := cc0_scoped2.sem) (Sd := (oSl L).view.set) (fs := o) (fd := f0) (by decide) (Finset.Subset.refl _)) $$ [H10s Ho Hs2 HO]
  · isplitl [H10s]; · iexact H10s
    isplitl [Ho]; · iexact Ho
    isplitl [Hs2]; · iexact Hs2
    isplitl [HO]; · iexact HO
    iexact Hmw
  iintro ⟨Ho, H10s, Hs2, HO⟩
  ihave H10 := H10r $$ H10s
  ihave Ho := (Entails.of_eq (pointsTo_congr (q := fullShare) (out_eq (F := F) L xs pv tab ho f0))) $$ Ho
  sl_step
  isplitl [Hx]; · iexact Hx
  isplitl [Hp]; · iexact Hp
  isplitl [Ht]; · iexact Ht
  isplitl [Ho]; · iexact Ho
  isplitl [H6 H7 H8 H9 H10]
  · isplitl [H6]; · iexists _; iexact H6
    isplitl [H7]; · iexists _; iexact H7
    isplitl [H8]; · iexists _; iexact H8
    isplitl [H9]; · iexists _; iexact H9
    iexists _; iexact H10
  isplitl [Hs5 Hs0 Hs1 Hs2]
  · isplitl [Hs5]; · iexact Hs5
    isplitl [Hs0]; · iexact Hs0
    isplitl [Hs1] <;> iassumption
  iexists _
  isplitr
  swap
  · iexact HO
  ipureintro
  intro p hp
  rcases Finset.mem_insert.mp hp with rfl | hp
  · exact .inr rfl
  rcases hW1 p hp with hp | hp
  · rcases Finset.mem_insert.mp hp with rfl | hp
    · exact .inr rfl
    exact .inl hp
  · exact .inr hp

end Cert.Proof.KernelIdeal

end
-- ==== Proof.KernelIdeal.Payload.lean ====
/-
  What the one call hands to the SparseCores and to their subcores: read shares of the three inputs, and blocks of the
  result; how the whole splits into them and comes back from them.
-/
module

public import proofs.«01_k».proof.Proof.KernelIdeal.Tile

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

variable (m : (ℓ : Loc nD τ sig) → Buf (Elt F) ℓ)

/-! ## The arrays, and the kernel's value of them -/

abbrev xLoc (d : Dev nD) : Loc nD τ sig := (SparseCore.T d).loc main_arg0
abbrev mapLoc (d : Dev nD) : Loc nD τ sig := (SparseCore.T d).loc main_arg1
abbrev cellLoc (d : Dev nD) : Loc nD τ sig := (SparseCore.T d).loc main_arg2
abbrev permLoc (d : Dev nD) : Loc nD τ sig := (SparseCore.T d).loc main_v2
abbrev tabLoc (d : Dev nD) : Loc nD τ sig := (SparseCore.T d).loc main_v3
abbrev outLoc (d : Dev nD) : Loc nD τ sig := (SparseCore.T d).loc main_v4

/-- The mapping as the kernel reads it: the bits of all neurons together, bit by bit. -/
def permOf (mp : S12288.Idx → BitVec 32) : S12288.Idx → BitVec 32 :=
  shapeCast S12288 (transpose S12x1024 [1, 0] (shapeCast S1024x12 mp shapeCasts_S12288_S1024x12) transposes_S1024x12_S12x1024_1_0) shapeCasts_S12x1024_S12288

/-- The neurons' tables as one table of rows. -/
def tabOf (cells : S1024x4096x16.Idx → Elt F .f32) : S4194304x16.Idx → Elt F .f32 := shapeCast S4194304x16 cells shapeCasts_S1024x4096x16_S4194304x16

abbrev xV (d : Dev nD) : S4096x12288.Idx → BitVec 32 := m (xLoc d)
def permV (d : Dev nD) : S12288.Idx → BitVec 32 := permOf (m (mapLoc d))
def tabV (d : Dev nD) : S4194304x16.Idx → Elt F .f32 := tabOf (m (cellLoc d))

/-- The kernel's result of the launch memory. -/
def outV (d : Dev nD) : S4096x16.Idx → Elt F .f32 := outVal (xV m d) (permV m d) (tabV m d)

/-- What the proof asks of the launch memory. -/
def PreOK : Prop := ∀ d : Dev nD, PermOK (permV m d) ∧ BitsOK (xV m d)

/-! ## The subcores' blocks of the result -/

/-- The coordinates of subcore `s` of SparseCore `c`. -/
def coordsV (c : Fin 2) (s : Fin 16) : grid0.Coords :=
  fun | 0 => c | 1 => s | ⟨_ + 2, h⟩ => absurd h (Nat.not_lt.2 (Nat.le_add_left _ _))

/-- The elements of the result that subcore `s` of SparseCore `c` writes, -/
def tileSet (c : Fin 2) (s : Fin 16) : Finset S4096x16.Idx := (oSl (coordsV c s)).view.set
/-- and those that the subcores of SparseCore `c` write. -/
def coreSet (c : Fin 2) : Finset S4096x16.Idx := Finset.univ.biUnion (tileSet c)

omit [FloatOps F] [Named F] in
/-- A subcore's elements are those of its 128 rows. -/
theorem mem_tileSet (c : Fin 2) (s : Fin 16) (y : S4096x16.Idx) : y ∈ tileSet c s ↔ (y 0).val / 128 = 2 * s.val + c.val := by
  constructor
  · intro hy
    obtain ⟨x, -, rfl⟩ := Finset.mem_map.mp hy
    have h0 : (x 0).val < 128 := (x 0).isLt
    have e : (((oSl (coordsV c s)).view.emb x : S4096x16.Idx) 0).val = 256 * s.val + 128 * c.val + (x 0).val := (oSl_emb (coordsV c s) x).1
    rw [e]
    omega
  · intro h
    have hr : (y 0).val - (256 * s.val + 128 * c.val) < 128 := by omega
    let x : S128x16.Idx := fun | 0 => ⟨(y 0).val - (256 * s.val + 128 * c.val), hr⟩ | 1 => ⟨(y 1).val, (y 1).isLt⟩
    have e0 : (((oSl (coordsV c s)).view.emb x : S4096x16.Idx) 0).val = 256 * s.val + 128 * c.val + ((y 0).val - (256 * s.val + 128 * c.val)) := (oSl_emb (coordsV c s) x).1
    have e1 : (((oSl (coordsV c s)).view.emb x : S4096x16.Idx) 1).val = (y 1).val := (oSl_emb (coordsV c s) x).2
    refine Finset.mem_map.mpr ⟨x, Finset.mem_univ _, Shape.idx_ext₂ ?_ e1⟩
    rw [e0]
    omega

omit [FloatOps F] [Named F] in
theorem tiles_disjoint (c : Fin 2) : ∀ s ∈ (Finset.univ : Finset (Fin 16)), ∀ s' ∈ (Finset.univ : Finset (Fin 16)), s ≠ s' → Disjoint (tileSet c s) (tileSet c s') := by
  intro s _ s' _ h
  refine Finset.disjoint_left.mpr fun y hy hy' => h (Fin.ext ?_)
  have h1 := (mem_tileSet c s y).mp hy
  have h2 := (mem_tileSet c s' y).mp hy'
  omega

omit [FloatOps F] [Named F] in
theorem cores_disjoint : ∀ c ∈ (Finset.univ : Finset (Fin 2)), ∀ c' ∈ (Finset.univ : Finset (Fin 2)), c ≠ c' → Disjoint (coreSet c) (coreSet c') := by
  intro c _ c' _ h
  refine Finset.disjoint_left.mpr fun y hy hy' => h (Fin.ext ?_)
  obtain ⟨s, -, hs⟩ := Finset.mem_biUnion.mp hy
  obtain ⟨s', -, hs'⟩ := Finset.mem_biUnion.mp hy'
  have h1 := (mem_tileSet c s y).mp hs
  have h2 := (mem_tileSet c' s' y).mp hs'
  omega

omit [FloatOps F] [Named F] in
theorem cores_cover : (Finset.univ : Finset (Fin 2)).biUnion coreSet = Finset.univ := by
  refine Finset.eq_univ_of_forall fun y => ?_
  have hy : (y 0).val < 4096 := (y 0).isLt
  refine Finset.mem_biUnion.mpr ⟨⟨(y 0).val / 128 % 2, by omega⟩, Finset.mem_univ _, Finset.mem_biUnion.mpr ⟨⟨(y 0).val / 256, by omega⟩, Finset.mem_univ _, ?_⟩⟩
  refine (mem_tileSet _ _ y).mpr ?_
  show (y 0).val / 128 = 2 * ((y 0).val / 256) + (y 0).val / 128 % 2
  omega

/-! ## The shares -/

/-- The share of the inputs that SparseCore `c` reads with, -/
def coreSh (c : Fin 2) : PosShare TreeShare := pieceOf fullShare 2 (by decide) c
/-- and the share of it of its subcore `s`. -/
def tileSh (c : Fin 2) (s : Fin 16) : PosShare TreeShare := pieceOf (coreSh c) 16 (by decide) s

/-- The three inputs at a share. -/
def reads (d : Dev nD) (q : PosShare TreeShare) : sProp 𝕄 :=
  iprop((xLoc d ↦[Finset.univ]{q} (xV m d : Buf (Elt F) (xLoc d))) ∗ (permLoc d ↦[Finset.univ]{q} (permV m d : Buf (Elt F) (permLoc d))) ∗ (tabLoc d ↦[Finset.univ]{q} (tabV m d : Buf (Elt F) (tabLoc d))))

/-- The elements `I` of the result at contents `f`. -/
abbrev outPts (d : Dev nD) (I : Finset S4096x16.Idx) (f : S4096x16.Idx → Elt F .f32) : sProp 𝕄 := outLoc d ↦[I]{fullShare} (f : Buf (Elt F) (outLoc d))

/-- The three inputs at a share are the three at the share's pieces. -/
theorem reads_pieces (d : Dev nD) (q : PosShare TreeShare) {o : ℕ} (ho : 0 < o) :
    reads m d q = bigSep Finset.univ fun j : Fin o => reads m d (pieceOf q o ho j) := by
  unfold reads
  rw [bigSep_sep', bigSep_sep', ← pointsTo_piecesOf, ← pointsTo_piecesOf, ← pointsTo_piecesOf]

theorem outPts_core (d : Dev nD) (c : Fin 2) (f : S4096x16.Idx → Elt F .f32) :
    outPts d (coreSet c) f = bigSep Finset.univ fun s : Fin 16 => outPts (F := F) d (tileSet c s) f :=
  pointsTo_biUnion Finset.univ (ℓ := outLoc d) (tileSet c) (tiles_disjoint c)

theorem outPts_cores (d : Dev nD) (f : S4096x16.Idx → Elt F .f32) :
    outPts d Finset.univ f = bigSep Finset.univ fun c : Fin 2 => outPts (F := F) d (coreSet c) f := by
  rw [← cores_cover]
  exact pointsTo_biUnion Finset.univ (ℓ := outLoc d) coreSet cores_disjoint

/-! ## What the handshakes carry -/

theorem nCore_zero : (K (F := F)).nCore 0 = 2 := rfl

/-- What SparseCore `c` takes and brings back, at contents `f` of the result, -/
def coreRes (d : Dev nD) (c : Fin 2) (f : S4096x16.Idx → Elt F .f32) : sProp 𝕄 := iprop(reads m d (coreSh c) ∗ outPts d (coreSet c) f)
/-- and what its subcore `s` does. -/
def tileRes (d : Dev nD) (c : Fin 2) (s : Fin 16) (f : S4096x16.Idx → Elt F .f32) : sProp 𝕄 := iprop(reads m d (tileSh c s) ∗ outPts d (tileSet c s) f)

instance coreRes_storable (d : Dev nD) (c : Fin 2) (f : S4096x16.Idx → Elt F .f32) : BI.Storable (upEmb : UEmb _ 𝕄) (coreRes m d c f) := by
  unfold coreRes reads; infer_instance
instance tileRes_storable (d : Dev nD) (c : Fin 2) (s : Fin 16) (f : S4096x16.Idx → Elt F .f32) : BI.Storable (upEmb : UEmb _ 𝕄) (tileRes m d c s f) := by
  unfold tileRes reads; infer_instance

/-- The call takes the inputs' shares and the result's blocks, and brings the blocks back at the kernel's value. -/
def P : (K (F := F)).Pay (nD := nD) (Val := Elt F) (Name := ℕ) (U := UU) where
  st := fun q d c => match q with | 0 => coreRes m d (c.cast nCore_zero) (m (outLoc d))
  dn := fun q d c => match q with | 0 => coreRes m d (c.cast nCore_zero) (outV m d)
  go := fun q d c s => match q with | 0 => tileRes m d (c.cast nCore_zero) (s.cast nSub_zero) (m (outLoc d))
  td := fun q d c s => match q with | 0 => tileRes m d (c.cast nCore_zero) (s.cast nSub_zero) (outV m d)
  x := fun _ _ => iprop(emp)

instance P_storable : (P (F := F) m).IsStorable where
  st q d c := match q with | 0 => coreRes_storable m d (c.cast nCore_zero) (m (outLoc d))
  dn q d c := match q with | 0 => coreRes_storable m d (c.cast nCore_zero) (outV m d)
  go q d c s := match q with | 0 => tileRes_storable m d (c.cast nCore_zero) (s.cast nSub_zero) (m (outLoc d))
  td q d c s := match q with | 0 => tileRes_storable m d (c.cast nCore_zero) (s.cast nSub_zero) (outV m d)

/-! ## Splitting and joining -/

/-- What a SparseCore takes is what its subcores take. -/
theorem coreRes_tiles (d : Dev nD) (c : Fin 2) (f : S4096x16.Idx → Elt F .f32) :
    coreRes m d c f = bigSep Finset.univ fun s : Fin 16 => tileRes m d c s f := by
  unfold coreRes tileRes
  rw [bigSep_sep', ← outPts_core, reads_pieces m d (coreSh c) (o := 16) (by decide)]
  rfl

/-- The inputs and the result whole are what the two SparseCores take. -/
theorem whole_cores (d : Dev nD) (f : S4096x16.Idx → Elt F .f32) :
    iprop(reads m d fullShare ∗ outPts d Finset.univ f) = bigSep Finset.univ fun c : Fin 2 => coreRes m d c f := by
  unfold coreRes
  rw [bigSep_sep', ← outPts_cores, reads_pieces m d fullShare (o := 2) (by decide)]
  rfl

/-- Each SparseCore's share splits into its subcores' and joins again. -/
theorem vecSplit : (K (F := F)).VecSplit' (P m) 0 := by
  intro d c
  show coreRes m d (c.cast nCore_zero) (m (outLoc d)) ⊢ |={Set.univ}=> iprop(
      (bigSep Finset.univ fun s : Fin 16 => tileRes m d (c.cast nCore_zero) s (m (outLoc d)))
      ∗ ((bigSep Finset.univ fun s : Fin 16 => tileRes m d (c.cast nCore_zero) s (outV m d)) -∗ coreRes m d (c.cast nCore_zero) (outV m d)))
  rw [← coreRes_tiles, ← coreRes_tiles]
  iintro H; imodintro
  isplitl [H]; · iexact H
  iintro H; iexact H

theorem st0_eq (d : Dev nD) :
    (bigSep Finset.univ fun c : Fin ((K (F := F)).nCore 0) => (P m).st 0 d c) = iprop(reads m d fullShare ∗ outPts d Finset.univ (m (outLoc d))) :=
  (whole_cores m d (m (outLoc d))).symm
theorem dn0_eq (d : Dev nD) :
    (bigSep Finset.univ fun c : Fin ((K (F := F)).nCore 0) => (P m).dn 0 d c) = iprop(reads m d fullShare ∗ outPts d Finset.univ (outV m d)) :=
  (whole_cores m d (outV m d)).symm

end Cert.Proof.KernelIdeal

end
-- ==== Proof.KernelIdeal.Body.lean ====
/-
  The task as the launch asks for it: from a subcore's own buffers and semaphores, and what its handshake brought.
-/
module

public import proofs.«01_k».proof.Proof.KernelIdeal.Payload

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ
local notation "m6" => (Memref.whole Cert.KernelIdeal.cc0_scratch0 : Memref Cert.KernelIdeal.sig Kind.scVector Space.vmem Cert.KernelIdeal.S12288 EltTy.i32)
local notation "m7" => (Memref.whole Cert.KernelIdeal.cc0_scratch1 : Memref Cert.KernelIdeal.sig Kind.scVector Space.vmem Cert.KernelIdeal.S12288 EltTy.i32)
local notation "m8" => (Memref.whole Cert.KernelIdeal.cc0_scratch2 : Memref Cert.KernelIdeal.sig Kind.scVector Space.vmem Cert.KernelIdeal.S8x128 EltTy.i32)
local notation "xW" => (Memref.whole Cert.KernelIdeal.main_arg0_scv : Memref Cert.KernelIdeal.sig Kind.scVector Space.hbm Cert.KernelIdeal.S4096x12288 EltTy.i32)
local notation "pW" => (Memref.whole Cert.KernelIdeal.main_v2_scv : Memref Cert.KernelIdeal.sig Kind.scVector Space.hbm Cert.KernelIdeal.S12288 EltTy.i32)
local notation "tW" => (Memref.whole Cert.KernelIdeal.main_v3_scv : Memref Cert.KernelIdeal.sig Kind.scVector Space.hbm Cert.KernelIdeal.S4194304x16 EltTy.f32)
local notation "oW" => (Memref.whole Cert.KernelIdeal.main_v4_scv : Memref Cert.KernelIdeal.sig Kind.scVector Space.hbm Cert.KernelIdeal.S4096x16 EltTy.f32)
local notation "m9" => (Memref.whole Cert.KernelIdeal.cc0_scratch3 : Memref Cert.KernelIdeal.sig Kind.scVector Space.vmem Cert.KernelIdeal.S1024x16 EltTy.f32)
local notation "m10" => (Memref.whole Cert.KernelIdeal.cc0_scratch4 : Memref Cert.KernelIdeal.sig Kind.scVector Space.vmem Cert.KernelIdeal.S128x16 EltTy.f32)

variable (m : (ℓ : Loc nD τ sig) → Buf (Elt F) ℓ)

section Tile

variable (d : Dev nD) (L : grid0.Coords)

/-! ## A subcore's own semaphores and buffers -/

/-- The four semaphores the task uses, -/
abbrev semCell (d : Dev nD) (L : grid0.Coords) (s : DmaSem sig) : GSem nD τ sig := (tV d L, .dma s)
abbrev theSems : Finset (DmaSem sig) := {cc0_scratch5.sem, cc0_scoped0.sem, cc0_scoped1.sem, cc0_scoped2.sem}

omit [FloatOps F] [Named F] in
theorem semCell_injective : Function.Injective (semCell d L) := fun a b h => by
  have e : (SemLoc.dma a : SemLoc sig) = SemLoc.dma b := congrArg Prod.snd h
  injection e

omit [FloatOps F] [Named F] in
/-- Those are among the subcore's own. -/
theorem theSems_sub : theSems.map ⟨semCell d L, semCell_injective d L⟩ ⊆ ownCells (tV d L) := by
  intro g hg
  obtain ⟨s, hs, rfl⟩ := Finset.mem_map.mp hg
  refine (mem_ownCells (g := semCell d L s)).mpr ⟨rfl, ?_⟩
  exact (show ∀ s ∈ theSems, (SemLoc.dma s : SemLoc sig).isScoped .scVector = true by decide) s hs

/-- A subcore's own semaphores at zero: the task's four, and the rest. -/
theorem ownSems0_V :
    (ownSems0 (tV d L) : sProp 𝕄)
      = iprop((semVal (tV d L, .dma cc0_scratch5.sem) 0 ∗ semVal (tV d L, .dma cc0_scoped0.sem) 0 ∗ semVal (tV d L, .dma cc0_scoped1.sem) 0 ∗ semVal (tV d L, .dma cc0_scoped2.sem) 0) ∗ bigSep (ownCells (tV d L) \ theSems.map ⟨semCell d L, semCell_injective d L⟩) fun g => semVal g 0) := by
  unfold SparseCore.Cfg.ownSems0
  rw [SparseCore.bigSep_sdiff_split' (theSems_sub d L), bigSep_map]
  rw [SparseCore.bigSep_insert' (by decide), SparseCore.bigSep_insert' (by decide), SparseCore.bigSep_insert' (by decide), bigSep_singleton]
  rfl

/-- The five scratch buffers. -/
abbrev theBufs : Finset (Ref sig .scVector) := {cc0_scratch0, cc0_scratch1, cc0_scratch2, cc0_scratch3, cc0_scratch4}
abbrev bufEmb : Ref sig .scVector ↪ DevRef τ sig := ⟨(Proc.scVector (cV L) (jV L)).devRef, Proc.devRef_injective _⟩

omit [FloatOps F] [Named F] in
/-- Those are among the subcore's own. -/
theorem theBufs_sub : theBufs.map (bufEmb L) ⊆ ownRefs (τ := τ) (.scVector (cV L) (jV L)) := by
  intro b hb
  obtain ⟨r, hr, rfl⟩ := Finset.mem_map.mp hb
  refine SparseCore.Cfg.mem_ownRefs_of_owner (p := Proc.scVector (cV L) (jV L)) (b := (Proc.scVector (cV L) (jV L)).devRef r) ?_
  simp only [theBufs, Finset.mem_insert, Finset.mem_singleton] at hr
  rcases hr with rfl | rfl | rfl | rfl | rfl <;> rfl

/-- A subcore's own buffers: the five scratch buffers at some contents, and the rest. -/
theorem ownBufs_V :
    (ownBufs (tV d L) : sProp 𝕄)
      = iprop(((∃ f : S12288.Idx → BitVec 32, ((m6).view.loc (tV d L) ↦{fullShare} (f : Buf (Elt F) ((m6).view.loc (tV d L))))) ∗ (∃ f : S12288.Idx → BitVec 32, ((m7).view.loc (tV d L) ↦{fullShare} (f : Buf (Elt F) ((m7).view.loc (tV d L)))))
    ∗ (∃ f : S8x128.Idx → BitVec 32, ((m8).view.loc (tV d L) ↦{fullShare} (f : Buf (Elt F) ((m8).view.loc (tV d L))))) ∗ (∃ f : S1024x16.Idx → Elt F .f32, ((m9).view.loc (tV d L) ↦{fullShare} (f : Buf (Elt F) ((m9).view.loc (tV d L)))))
    ∗ (∃ f : S128x16.Idx → Elt F .f32, ((m10).view.loc (tV d L) ↦{fullShare} (f : Buf (Elt F) ((m10).view.loc (tV d L))))))
        ∗ bigSep (ownRefs (τ := τ) (.scVector (cV L) (jV L)) \ theBufs.map (bufEmb L)) fun b => iprop(∃ f, ((d, b) : Loc nD τ sig) ↦{fullShare} f)) := by
  unfold SparseCore.Cfg.ownBufs
  rw [SparseCore.bigSep_sdiff_split' (theBufs_sub L), bigSep_map]
  rw [SparseCore.bigSep_insert' (by decide), SparseCore.bigSep_insert' (by decide), SparseCore.bigSep_insert' (by decide), SparseCore.bigSep_insert' (by decide),
    bigSep_singleton]
  rfl

/-! ## The task -/

/-- What the handshake brings, as the task addresses it. -/
theorem tileRes_eq (c : Fin 2) (s : Fin 16) (f : S4096x16.Idx → Elt F .f32) :
    tileRes m d c s f = iprop((((xW).view.loc (tV d (coordsV c s)) ↦[Finset.univ]{tileSh c s} (xV m d : Buf (Elt F) ((xW).view.loc (tV d (coordsV c s)))))
      ∗ ((pW).view.loc (tV d (coordsV c s)) ↦[Finset.univ]{tileSh c s} (permV m d : Buf (Elt F) ((pW).view.loc (tV d (coordsV c s)))))
      ∗ ((tW).view.loc (tV d (coordsV c s)) ↦[Finset.univ]{tileSh c s} (tabV m d : Buf (Elt F) ((tW).view.loc (tV d (coordsV c s))))))
      ∗ ((oSl (coordsV c s)).view.loc (tV d (coordsV c s)) ↦[(oSl (coordsV c s)).view.set]{fullShare} (f : Buf (Elt F) ((oSl (coordsV c s)).view.loc (tV d (coordsV c s)))))) := rfl

/-- The task on subcore `s` of SparseCore `c`, with what the launch keeps for it. -/
theorem tile_body (c : Fin 2) (s : Fin 16) (hF : (K (F := F)).Facts) (hpre : PreOK m) (O : CellTallies nD τ sig (HIx 1)) (W : Waits sig (HIx 1)) (hO : ∀ g, O g none = 0) :
    iprop(levAts (K (F := F)).L (K (F := F)).lev ∗ emp ∗ tileRes m d c s (m (outLoc d))
        ∗ scopedBufs (tV d (coordsV c s)) ∗ scopedSems0 (tV d (coordsV c s)) ∗ owes (tV d (coordsV c s)) O W)
      ⊢ wp frame (wpE (defs₀ (F := F)) 𝒱₀ (tV d (coordsV c s)) none) Set.univ (cc0_k (F := F) (coordsV c s) xW (Memref.isWhole_whole _) pW (Memref.isWhole_whole _) tW (Memref.isWhole_whole _) oW (Memref.isWhole_whole _)
        m6 (Memref.isWhole_whole _) m7 (Memref.isWhole_whole _) m8 (Memref.isWhole_whole _) m9 (Memref.isWhole_whole _) m10 (Memref.isWhole_whole _)
        cc0_scratch5 cc0_scoped0 cc0_scoped1 cc0_scoped2)
          fun _ => iprop(tileRes m d c s (outV m d) ∗ scopedBufs (tV d (coordsV c s)) ∗ scopedSems0 (tV d (coordsV c s))
            ∗ ∃ W', ⌜∀ p ∈ W', p ∈ W ∨ p.2 = none⌝ ∗ owes (tV d (coordsV c s)) O W') := by
  rw [tileRes_eq, tileRes_eq]
  generalize tileSh c s = q
  generalize coordsV c s = L
  rw [(K (F := F)).scopedBufs_V hF d (cV L) (jV L), SparseCore.Cfg.scopedSems0_V (Val := Elt F) d (cV L) (jV L), ownSems0_V, ownBufs_V]
  iintro ⟨#Hlv, -, ⟨⟨Hx, Hp, Ht⟩, Ho⟩, ⟨Hbufs, Hbr⟩, ⟨Hsems, Hsr⟩, HO⟩
  ihave Hmw := (show levAts (K (F := F)).L (K (F := F)).lev ⊢ Transfers.MayWaits (tV d L) (default : HIx 1) O from
    (K (F := F)).mayWaits_none (thr := tV d L) hO) $$ Hlv
  ihave H1 := (wp_task (F := F) d L q q q (xV m d) (permV m d) (tabV m d) (O := O) (hpre d).1 (hpre d).2 (W := W) (m (outLoc d))) $$ [Hmw Hx Hp Ht Ho Hbufs Hsems HO]
  · isplitl [Hmw]; · iexact Hmw
    isplitl [Hx]; · iexact Hx
    isplitl [Hp]; · iexact Hp
    isplitl [Ht]; · iexact Ht
    isplitl [Ho]; · iexact Ho
    isplitl [Hbufs]; · iexact Hbufs
    isplitl [Hsems] <;> iassumption
  iapply (wp_wand _ _ _) $$ H1
  iintro %_ ⟨Hx, Hp, Ht, Ho, Hbufs, Hsems, HO⟩
  isplitl [Hx Hp Ht Ho]
  · isplitr [Ho]
    · isplitl [Hx]; · iexact Hx
      isplitl [Hp] <;> iassumption
    · iexact Ho
  isplitl [Hbufs Hbr]
  · isplitl [Hbufs] <;> iassumption
  isplitl [Hsems Hsr]
  · isplitl [Hsems] <;> iassumption
  iexact HO

/-! ## The obligation -/

theorem defs₀_vector (c : Fin τ.nSC) (s : Fin τ.nSub) :
    defs₀ (F := F) (.scVector c s) 0 ()
      = SparseCore.onTile hcore0 hsub0 (fun c s => cc0_k (F := F) (coordsV c s) xW (Memref.isWhole_whole _) pW (Memref.isWhole_whole _) tW (Memref.isWhole_whole _) oW (Memref.isWhole_whole _)
        m6 (Memref.isWhole_whole _) m7 (Memref.isWhole_whole _) m8 (Memref.isWhole_whole _) m9 (Memref.isWhole_whole _) m10 (Memref.isWhole_whole _)
        cc0_scratch5 cc0_scoped0 cc0_scoped1 cc0_scoped2) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every subcore's task meets what the launch asks of it. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d ⟨_, hci.1⟩ ⟨_, hci.2⟩ hF hpre O W hO).trans (wp_mono frame _ _ fun _ => obl_post)

end Tile

end Cert.Proof.KernelIdeal

end
-- ==== Proof.KernelIdeal.Run.lean ====
/-
  The program's run: the four array operations before the call, the call, and what is left at the end.
-/
module

public import proofs.«01_k».proof.Proof.KernelIdeal.Body

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.StableHlo (wp_hlo_within)
open Idealize.ShloMosaic.Rounds
open Idealize.ShloMosaic.Tactic

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## The launch's ghost state -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have hx : (bigSep Finset.univ fun thr : Thread nD τ => bigSep Finset.univ fun q : Fin 1 => (P (F := F) m).x q thr) = (iprop(emp) : sProp 𝕄) :=
    (bigSep_congr fun _ _ => bigSep_emp_const (Finset.univ : Finset (Fin 1))).trans (bigSep_emp_const _)
  have hd : (bigSep Finset.univ fun _ : Dev nD => iprop(emp)) = (iprop(emp) : sProp 𝕄) := bigSep_emp_const _
  unfold u₀
  rw [hx, hd]
  iintro Hu
  ihave H := (ownU_pair (initOf (K (F := F)).hsCells (K (F := F)).hsToks) (1 : Counters)) $$ Hu
  icases H with ⟨HH, -⟩
  imodintro
  isplitl [HH]; · iexact HH
  isplitr <;> iempintro

/-! ## The array operations -/

abbrev dref (b : Ref sig .tc) : DevRef τ sig := Proc.devRef .tc b
abbrev opMap : HloOp τ sig (Elt F) := StableHlo.reshape main_arg1 main_v0 (rfl : (.i32 : EltTy) = .i32) shapeCasts_S12288_S1024x12
abbrev opTr : HloOp τ sig (Elt F) := StableHlo.unary main_v0 main_v1 ((transpose S12x1024 [1, 0] · transposes_S1024x12_S12x1024_1_0) : (⟨S1024x12, .i32⟩ : BufTy).Contents (Elt F) → (⟨S12x1024, .i32⟩ : BufTy).Contents (Elt F))
abbrev opPerm : HloOp τ sig (Elt F) := StableHlo.reshape main_v1 main_v2 (rfl : (.i32 : EltTy) = .i32) shapeCasts_S12x1024_S12288
abbrev opTab : HloOp τ sig (Elt F) := StableHlo.reshape main_arg2 main_v3 (rfl : (.f32 : EltTy) = .f32) shapeCasts_S1024x4096x16_S4194304x16

/-- The program's arrays, -/
abbrev arrays : Finset (DevRef τ sig) := {dref main_arg0, dref main_arg1, dref main_arg2, dref main_v0, dref main_v1, dref main_v2, dref main_v3, dref main_v4}

/-- at the launch, -/
def V0 (d : Dev nD) : Valuation τ sig (Elt F) := fun b => m (d, b)
/-- and after the four operations. -/
abbrev V4 (d : Dev nD) : Valuation τ sig (Elt F) := (opTab (F := F)).result ((opPerm (F := F)).result ((opTr (F := F)).result ((opMap (F := F)).result (V0 m d))))

theorem held_arrays (d : Dev nD) (W : Valuation τ sig (Elt F)) :
    (StableHlo.held (T d) arrays W : sProp 𝕄) = iprop(((SparseCore.T d).loc main_arg0 ↦{fullShare} W (dref main_arg0)) ∗ ((SparseCore.T d).loc main_arg1 ↦{fullShare} W (dref main_arg1)) ∗ ((SparseCore.T d).loc main_arg2 ↦{fullShare} W (dref main_arg2)) ∗ ((SparseCore.T d).loc main_v0 ↦{fullShare} W (dref main_v0)) ∗ ((SparseCore.T d).loc main_v1 ↦{fullShare} W (dref main_v1)) ∗ ((SparseCore.T d).loc main_v2 ↦{fullShare} W (dref main_v2)) ∗ ((SparseCore.T d).loc main_v3 ↦{fullShare} W (dref main_v3)) ∗ ((SparseCore.T d).loc main_v4 ↦{fullShare} W (dref main_v4))) := by
  unfold StableHlo.held arrays
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem unscoped_held (d : Dev nD) : (unscopedBufs d (fun b => m ((SparseCore.T d).loc b)) : sProp 𝕄) = StableHlo.held (T d) arrays (V0 m d) := by
  rw [held_arrays]
  unfold unscopedBufs
  rw [show (Finset.univ.filter fun b : Ref sig .tc => ¬ b.isScoped) = {main_arg0, main_arg1, main_arg2, main_v0, main_v1, main_v2, main_v3, main_v4} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

theorem V4_arg0 (d : Dev nD) : V4 m d (dref main_arg0) = m (xLoc d) := by
  unfold V4
  rewrite [StableHlo.reshape_result_ne _ _ _ _ _ ?_, StableHlo.reshape_result_ne _ _ _ _ _ ?_, StableHlo.unary_result_ne _ _ _ _ ?_,
    StableHlo.reshape_result_ne _ _ _ _ _ ?_]
  · rfl
  all_goals decide
theorem V4_arg1 (d : Dev nD) : V4 m d (dref main_arg1) = m (mapLoc d) := by
  unfold V4
  rewrite [StableHlo.reshape_result_ne _ _ _ _ _ ?_, StableHlo.reshape_result_ne _ _ _ _ _ ?_, StableHlo.unary_result_ne _ _ _ _ ?_,
    StableHlo.reshape_result_ne _ _ _ _ _ ?_]
  · rfl
  all_goals decide
theorem V4_arg2 (d : Dev nD) : V4 m d (dref main_arg2) = m (cellLoc d) := by
  unfold V4
  rewrite [StableHlo.reshape_result_ne _ _ _ _ _ ?_, StableHlo.reshape_result_ne _ _ _ _ _ ?_, StableHlo.unary_result_ne _ _ _ _ ?_,
    StableHlo.reshape_result_ne _ _ _ _ _ ?_]
  · rfl
  all_goals decide
theorem V4_out (d : Dev nD) : V4 m d (dref main_v4) = m (outLoc d) := by
  unfold V4
  rewrite [StableHlo.reshape_result_ne _ _ _ _ _ ?_, StableHlo.reshape_result_ne _ _ _ _ _ ?_, StableHlo.unary_result_ne _ _ _ _ ?_,
    StableHlo.reshape_result_ne _ _ _ _ _ ?_]
  · rfl
  all_goals decide
theorem V4_perm (d : Dev nD) : V4 m d (dref main_v2) = permV m d := by
  unfold V4
  rewrite [StableHlo.reshape_result_ne _ _ _ _ _ ?_, StableHlo.reshape_result', StableHlo.unary_result', StableHlo.reshape_result']
  · rfl
  all_goals decide
theorem V4_tab (d : Dev nD) : V4 m d (dref main_v3) = tabV m d := by
  unfold V4
  rewrite [StableHlo.reshape_result', StableHlo.reshape_result_ne _ _ _ _ _ ?_, StableHlo.unary_result_ne _ _ _ _ ?_,
    StableHlo.reshape_result_ne _ _ _ _ _ ?_]
  · rfl
  all_goals decide

/-- What the call takes, what it leaves aside that is kept, and the two arrays that are not read again. -/
theorem held_V4 (d : Dev nD) :
    (StableHlo.held (T d) arrays (V4 m d) : sProp 𝕄)
      ⊢ iprop((reads m d fullShare ∗ outPts d Finset.univ (m (outLoc d))) ∗ (mapLoc d ↦{fullShare} m (mapLoc d)) ∗ (cellLoc d ↦{fullShare} m (cellLoc d))) := by
  rw [held_arrays, V4_arg0, V4_arg1, V4_arg2, V4_perm, V4_tab, V4_out]
  iintro ⟨Hx, Hm, Hc, -, -, Hp, Ht, Ho⟩
  unfold reads
  isplitr [Hm Hc]
  · isplitr [Ho]
    · isplitl [Hx]; · iexact Hx
      isplitl [Hp] <;> iassumption
    · iexact Ho
  isplitl [Hm] <;> iassumption

/-! ## The program on the TensorCore -/

/-- What the program leaves: the three arguments at their launch contents, the result at the kernel's value. -/
abbrev FIN (d : Dev nD) : sProp 𝕄 :=
  iprop((xLoc d ↦{fullShare} m (xLoc d)) ∗ (mapLoc d ↦{fullShare} m (mapLoc d)) ∗ (cellLoc d ↦{fullShare} m (cellLoc d)) ∗ outPts d Finset.univ (outV m d))

set_option maxRecDepth 16384 in
/-- The program on device `d`'s TensorCore: the four operations, then the call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opMap) (S := arrays) (show ({dref main_arg1, dref main_v0} : Finset (DevRef τ sig)) ⊆ arrays by decide) (V := V0 m d)) $$ [Hb Hheld]
  · isplitl [Hb] <;> iassumption
  iintro ⟨Hb, Hheld⟩
  rw [wp_ret]; imodintro
  iapply (wp_hlo_within 𝒱 (SparseCore.T d) none Set.univ (op := opTr) (S := arrays) (show ({dref main_v0, dref main_v1} : Finset (DevRef τ sig)) ⊆ arrays by decide)) $$ [Hb Hheld]
  · isplitl [Hb] <;> iassumption
  iintro ⟨Hb, Hheld⟩
  rw [wp_ret]; imodintro
  iapply (wp_hlo_within 𝒱 (SparseCore.T d) none Set.univ (op := opPerm) (S := arrays) (show ({dref main_v1, dref main_v2} : Finset (DevRef τ sig)) ⊆ arrays by decide)) $$ [Hb Hheld]
  · isplitl [Hb] <;> iassumption
  iintro ⟨Hb, Hheld⟩
  rw [wp_ret]; imodintro
  iapply (wp_hlo_within 𝒱 (SparseCore.T d) none Set.univ (op := opTab) (S := arrays) (show ({dref main_arg2, dref main_v3} : Finset (DevRef τ sig)) ⊆ arrays by decide)) $$ [Hb Hheld]
  · isplitl [Hb] <;> iassumption
  iintro ⟨Hb, Hheld⟩
  rw [wp_ret]; imodintro
  ihave Hh := (held_V4 m d) $$ Hheld
  icases Hh with ⟨Hin, Hm, Hc⟩
  iapply ((K (F := F)).wp_run (D (F := F)) 𝒱 (EH := EH) (P := P m) κ d 0) $$ [Hst Hin Hm Hc Hb Hts]
  isplitr; · iexact Hctx
  isplitl [Hst]; · iexact Hst
  isplitl [Hin]
  · rw [st0_eq]; iexact Hin
  iintro ⟨Hst, Hdn⟩
  ihave Hdn' := (Entails.of_eq (dn0_eq m d)) $$ Hdn
  unfold reads
  icases Hdn' with ⟨⟨Hx, -, -⟩, Ho⟩
  imodintro
  isplitl [Hst]; · iexact Hst
  isplitr [Hb Hts]
  · isplitl [Hx]; · iexact Hx
    isplitl [Hm]; · iexact Hm
    isplitl [Hc] <;> iassumption
  isplitl [Hb] <;> iassumption

/-- The same of the final memory. -/
def fq (d : Dev nD) (s' : Phys nD τ sig (Elt F)) : Prop :=
  s'.mem.mem (xLoc d) = m (xLoc d) ∧ s'.mem.mem (mapLoc d) = m (mapLoc d) ∧ s'.mem.mem (cellLoc d) = m (cellLoc d) ∧ s'.mem.mem (outLoc d) = outV m d

/-- A whole buffer held is what the final memory has. -/
theorem read_off (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ i)
  · iexact HSI

theorem hfin (d : Dev nD) (s' : Phys nD τ sig (Elt F)) : iprop(FIN m d ∗ SI s') ⊢ (⌜fq m d s'⌝ : sProp 𝕄) := by
  iintro ⟨⟨Hx, Hm, Hc, Ho⟩, HSI⟩
  icombine Hx HSI as H
  ihave H := (read_off s' (xLoc d) (m (xLoc d))) $$ H
  icases H with ⟨%h1, HSI⟩
  icombine Hm HSI as H
  ihave H := (read_off s' (mapLoc d) (m (mapLoc d))) $$ H
  icases H with ⟨%h2, HSI⟩
  icombine Hc HSI as H
  ihave H := (read_off s' (cellLoc d) (m (cellLoc d))) $$ H
  icases H with ⟨%h3, HSI⟩
  icombine Ho HSI as H
  ihave H := (read_off s' (outLoc d) (outV m d)) $$ H
  icases H with ⟨%h4, -⟩
  ipureintro
  exact ⟨h1, h2, h3, h4⟩

/-! ## The run -/

/-- What every run ends with. -/
def QC : PUnit × MemSt nD τ sig (Elt F) → Prop := fun r =>
  (∀ c : Dev nD, r.2.mem (xLoc c) = m (xLoc c) ∧ r.2.mem (mapLoc c) = m (mapLoc c) ∧ r.2.mem (cellLoc c) = m (cellLoc c) ∧ r.2.mem (outLoc c) = outV m c) ∧ r.2.sem = fun _ => 0

/-- Every run ends with the arguments unchanged, the result at the kernel's value and all semaphores at zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.KernelIdeal

end
-- ==== Proof.Pre.lean ====
/-
  What the precondition says of the launch memory: every word of `x` is zero or one, and every entry of the mapping is a
  position of a row of `x`; with it, what the kernel's proof asks of the memory.
-/
module

public import proofs.«01_k».proof.Defs
public import proofs.«01_k».proof.Proof.Gen.Pre_in_range
public import proofs.«01_k».proof.Proof.Kernel.Run
public import proofs.«01_k».proof.Proof.KernelIdeal.Run
public import Idealize.ShloMosaic.Lib.ReduceAll
public import Idealize.ShloMosaic.Lib.WordCmp

@[expose] public section

noncomputable section

namespace Cert.Proof

open Idealize.ShloMosaic Idealize.SL.Sem

/-- The conjunction of two one-bit arrays at a position. -/
theorem andi_at {s : Shape} {a b : IVec s 1} {y : s.Idx} (h : andi a b y = 1#1) : a y = 1#1 ∧ b y = 1#1 :=
  IntOp.andi_eq_one.mp h

/-- A word between zero and one, as the precondition compares it. -/
theorem bit_iff {v : BitVec 32} : IntOp.andi (IntOp.cmpi .sge v 0#32) (IntOp.cmpi .sle v 1#32) = 1#1 ↔ v.toNat < 2 := by
  rw [IntOp.andi_eq_one, IntOp.cmpi_sge, IntOp.cmpi_sle]
  simp only [BitVec.toInt_eq_toNat_cond, BitVec.toNat_ofNat, Nat.reducePow, Nat.reduceMod]
  omega

/-- A word below the row's length, as the precondition compares it. -/
theorem entry_iff {v : BitVec 32} : IntOp.andi (IntOp.cmpi .sge v 0#32) (IntOp.cmpi .slt v 12288#32) = 1#1 ↔ v.toNat < 12288 := by word_cmp

/-- Where the precondition holds, the words of `x` are zero or one and the mapping's entries are below 12288. -/
theorem in_range {F : FTy → Type} [FloatOps F] (x : IVec Cert.Pre_in_range.S4096x12288 32) (mp : IVec Cert.Pre_in_range.S12288 32)
    (cells : FVec F Cert.Pre_in_range.S1024x4096x16 .f32) (h : Cert.Pre_in_range.fn x mp cells = fun _ => 1#1) :
    (∀ y, (x y).toNat < 2) ∧ ∀ n, (mp n).toNat < 12288 := by
  have hs : Subsingleton Cert.Pre_in_range.S_.Idx := ⟨fun a b => funext fun i => i.elim0⟩
  have e := congrFun h (fun i => i.elim0)
  obtain ⟨e, hlt⟩ := andi_at e
  obtain ⟨e, hge⟩ := andi_at e
  obtain ⟨hx0, hx1⟩ := andi_at e
  have k0 := Host.reduce_andi_all _ _ _ _ _ hx0
  have k1 := Host.reduce_andi_all _ _ _ _ _ hx1
  have k2 := Host.reduce_andi_all _ _ _ _ _ hge
  have k3 := Host.reduce_andi_all _ _ _ _ _ hlt
  constructor
  · intro y
    have a : IntOp.cmpi .sge (x y) 0#32 = 1#1 := k0 y
    have b : IntOp.cmpi .sle (x y) 1#32 = 1#1 := k1 y
    exact bit_iff.mp (IntOp.andi_eq_one.mpr ⟨a, b⟩)
  · intro n
    have a : IntOp.cmpi .sge (mp n) 0#32 = 1#1 := k2 n
    have b : IntOp.cmpi .slt (mp n) 12288#32 = 1#1 := k3 n
    exact entry_iff.mp (IntOp.andi_eq_one.mpr ⟨a, b⟩)

/-- The printed kernel's proof gets what it asks of the launch memory. -/
theorem kernel_ok (m : (ℓ : Loc Cert.Kernel.nD Cert.Kernel.τ Cert.Kernel.sig) → Buf (Elt Bits) ℓ) (h : Cert.Pre_Kernel m) :
    Cert.Proof.Kernel.PreOK (F := Bits) m := fun d =>
  have r := in_range _ _ _ (h d)
  ⟨fun n => r.2 _, r.1⟩

/-- The idealized kernel's proof gets what it asks of the launch memory. -/
theorem ideal_ok (m : (ℓ : Loc Cert.KernelIdeal.nD Cert.KernelIdeal.τ Cert.KernelIdeal.sig) → Buf (Elt Ideal) ℓ) (h : Cert.Pre_KernelIdeal m) :
    Cert.Proof.KernelIdeal.PreOK (F := Ideal) m := fun d =>
  have r := in_range _ _ _ (h d)
  ⟨fun n => r.2 _, r.1⟩

/-! ## The frames -/

/-- The printed kernel runs, its arguments and counters end as they began. -/
theorem frame_kernel : Cert.quiescent_Kernel := fun m g h =>
  (θ_run Cert.Kernel.defs _ _).mono (fun _ r => ⟨fun c => ⟨(r.1 c).1, (r.1 c).2.1, (r.1 c).2.2.1⟩, r.2⟩)
    (Cert.Proof.Kernel.run_main (F := Bits) m g (kernel_ok m h))

/-- The idealized kernel runs, its arguments and counters end as they began. -/
theorem frame_ideal : Cert.quiescent_KernelIdeal := fun m g h =>
  (θ_run Cert.KernelIdeal.defs _ _).mono (fun _ r => ⟨fun c => ⟨(r.1 c).1, (r.1 c).2.1, (r.1 c).2.2.1⟩, r.2⟩)
    (Cert.Proof.KernelIdeal.run_main (F := Ideal) m g (ideal_ok m h))

/-- The one constant that the idealized kernel names: one twelfth. -/
theorem preserves : Cert.preserves_Kernel_KernelIdeal :=
  IdealRules.named_const.statement Cert.KernelIdeal.κ "inv_n" .f32 0x3DAAAAAB#32 ((1 / 12 : ℝ) : EReal) rfl

end Cert.Proof

end
-- ==== Proof.Reference.Run.lean ====
/-
  The reference's run: its line of host operations, read off the printed program, and what the result then holds, as
  three steps over the arguments — the permuted bits (`taken`), the looked-up cells (`looked`), their mean (`meanRef`).
-/
module

public import proofs.«01_k».proof.Defs
public import proofs.«01_k».proof.Proof.Gen.ReferenceIdeal
public import Idealize.ShloMosaic.Lib.StableHlo.RunHlo
public import Idealize.ShloMosaic.Lib.StableHlo.RunRead

@[expose] public section

noncomputable section

namespace Cert.Proof.Reference

open Idealize.ShloMosaic Idealize.ShloMosaic.TcCoe Idealize.ShloMosaic.StableHlo Idealize.SL.Sem
open Cert.ReferenceIdeal Cert.ReferenceIdeal.Gen

variable {F : FTy → Type} [FloatOps F]

/-! ## The reference's value in steps -/

/-- The positions to take, a negative one counted from the end, as a column. -/
def takeIx (mp : IVec S12288 32) : IVec S12288x1 32 :=
  broadcastInDim S12288x1 ![0] bcast_S12288_S12288x1_0
    (select (cmpi .slt mp (broadcastInDim S12288 ![] bcast_S_S12288 (constantI S_ 32 0#32)))
      (addi mp (broadcastInDim S12288 ![] bcast_S_S12288 (constantI S_ 32 12288#32))) mp)

/-- Which positions lie in the row. -/
def takeOk (mp : IVec S12288 32) : IVec S12288 1 :=
  Host.reduce IntOp.andi
    (andi (cmpi .sge (takeIx mp) (broadcastInDim S12288x1 ![] bcast_S_S12288x1 (constantI S_ 32 0#32)))
      (cmpi .sle (takeIx mp) (broadcastInDim S12288x1 ![0, 1] bcast_S1x1_S12288x1_0_1
        (broadcastInDim S1x1 ![1] bcast_S1_S1x1_1 (constantI S1 32 12287#32)))))
    (constantI S_ 1 1#1) reducesTo_S12288x1_S12288_d1 h_S_

/-- The bits in the order of the mapping, the least word where a position lies outside the row. -/
def taken (x : IVec S4096x12288 32) (mp : IVec S12288 32) : IVec S4096x12288 32 :=
  select (broadcastInDim S4096x12288 ![1] bcast_S12288_S4096x12288_1 (takeOk mp))
    (Host.gather gather_S4096x12288_S12288x1_S4096x12288_0_1_n_n_1_1_40961 x (takeIx mp))
    (broadcastInDim S4096x12288 ![] bcast_S_S4096x12288 (constantI S_ 32 2147483648#32))

/-- The keys: per row and neuron, twelve bits against the weights `pw`. -/
def keysOf (pw : IVec S12 32) (t : IVec S4096x12288 32) : IVec S4096x1024 32 :=
  Host.reduce IntOp.addi
    (muli (shapeCast S4096x1024x12 t shapeCasts_S4096x12288_S4096x1024x12)
      (broadcastInDim S4096x1024x12 ![0, 1, 2] bcast_S1x1x12_S4096x1024x12_0_1_2
        (broadcastInDim S1x1x12 ![2] bcast_S12_S1x1x12_2 pw)))
    (constantI S_ 32 0#32) reducesTo_S4096x1024x12_S4096x1024_d2 h_S_

/-- The neurons' numbers, one row of them. -/
def neurons : IVec S1x1024 32 :=
  select (cmpi .slt (broadcastInDim S1x1024 ![1] bcast_S1024_S1x1024_1 (iotaInDim S1024 32 0))
      (broadcastInDim S1x1024 ![] bcast_S_S1x1024 (constantI S_ 32 0#32)))
    (addi (broadcastInDim S1x1024 ![1] bcast_S1024_S1x1024_1 (iotaInDim S1024 32 0))
      (broadcastInDim S1x1024 ![] bcast_S_S1x1024 (constantI S_ 32 1024#32)))
    (broadcastInDim S1x1024 ![1] bcast_S1024_S1x1024_1 (iotaInDim S1024 32 0))

/-- The keys, a negative one counted from the end. -/
def keysFix (k : IVec S4096x1024 32) : IVec S4096x1024 32 :=
  select (cmpi .slt k (broadcastInDim S4096x1024 ![] bcast_S_S4096x1024 (constantI S_ 32 0#32)))
    (addi k (broadcastInDim S4096x1024 ![] bcast_S_S4096x1024 (constantI S_ 32 4096#32))) k

/-- Two columns side by side. -/
def beside (a b : IVec S4096x1024x1 32) : IVec S4096x1024x2 32 :=
  concatenate S4096x1024x2 2 [⟨S4096x1024x1, a⟩, ⟨S4096x1024x1, b⟩] concatenates_S4096x1024x1_S4096x1024x1_S4096x1024x2_d2

/-- `beside`, from its spelling in the program. -/
theorem beside_eq (a b : IVec S4096x1024x1 32) :
    concatenate S4096x1024x2 2 [⟨S4096x1024x1, a⟩, ⟨S4096x1024x1, b⟩] concatenates_S4096x1024x1_S4096x1024x1_S4096x1024x2_d2
      = beside a b := rfl

/-- The pairs (neuron, key) the memory is read at. -/
def pairs (k : IVec S4096x1024 32) : IVec S4096x1024x2 32 :=
  beside
    (broadcastInDim S4096x1024x1 ![0, 1] bcast_S4096x1024_S4096x1024x1_0_1
      (broadcastInDim S4096x1024 ![0, 1] bcast_S1x1024_S4096x1024_0_1 neurons))
    (broadcastInDim S4096x1024x1 ![0, 1] bcast_S4096x1024_S4096x1024x1_0_1 (keysFix k))

/-- The cells looked up at the keys. -/
def looked (cells : FVec F S1024x4096x16 .f32) (k : IVec S4096x1024 32) : FVec F S4096x1024x16 .f32 :=
  Host.gather gather_S1024x4096x16_S4096x1024x2_S4096x1024x16_2_01_n_n_01_2_1116 cells (pairs k)

/-- The sum over the neurons, divided by twelve. -/
def meanRef (g : FVec F S4096x1024x16 .f32) : FVec F S4096x16 .f32 :=
  Host.divf (Host.reduceAdd g (constant S_ .f32 0x00000000#32) reducesTo_S4096x1024x16_S4096x16_d1 h_S_)
    (broadcastInDim S4096x16 ![] bcast_S_S4096x16 (constant S_ .f32 0x41400000#32))

/-- The weights of the twelve bits. -/
def weights : IVec S12 32 := fun y => BitVec.ofNat 32 (2 ^ (y 0).val)

/-- The reference's result over its three arguments. -/
def refVal (x : IVec S4096x12288 32) (mp : IVec S12288 32) (cells : FVec F S1024x4096x16 .f32) : FVec F S4096x16 .f32 :=
  meanRef (looked cells (keysOf weights (taken x mp)))

/-! ## The weights as the program makes them: powers of two by repeated squaring -/

/-- One word at twelve positions. -/
def at12 (b : IVec S_ 32) : IVec S12 32 := broadcastInDim S12 ![] bcast_S_S12 b

/-- One square: the factor `b` where the exponent's last bit is set. -/
def square (w n : IVec S12 32) (b : IVec S_ 32) : IVec S12 32 :=
  select (cmpi .ne (andi n (at12 (constantI S_ 32 1#32))) (at12 (constantI S_ 32 0#32))) (muli w (at12 b)) w

/-- The exponents without their last bit. -/
def half (n : IVec S12 32) : IVec S12 32 := Host.shrui n (at12 (constantI S_ 32 1#32))

/-- The first power: one. -/
def one12 : IVec S12 32 :=
  select (andi (broadcastInDim S12 ![] bcast_S_S12 (cmpi .eq (constantI S_ 32 2#32) (constantI S_ 32 0#32)))
      (cmpi .ne (iotaInDim S12 32 0) (at12 (constantI S_ 32 0#32))))
    (at12 (constantI S_ 32 0#32)) (at12 (constantI S_ 32 1#32))

/-- `2 ^ (2 ^ k)`, as the program squares it. -/
def base : ℕ → IVec S_ 32
  | 0 => constantI S_ 32 2#32
  | k + 1 => muli (base k) (base k)

/-- The exponents shifted `k` times. -/
def shifted : ℕ → IVec S12 32
  | 0 => iotaInDim S12 32 0
  | k + 1 => half (shifted k)

/-- The powers after `k` squares. -/
def powers : ℕ → IVec S12 32
  | 0 => one12
  | k + 1 => square (powers k) (shifted k) (base k)

/-- Six squares make the weights. -/
theorem powers_eq (y : S12.Idx) : powers 6 y = weights y := by
  have e : y = fun | 0 => y 0 := by funext a; match a with | 0 => rfl
  rw [e]
  generalize y 0 = k
  revert k
  decide +kernel

/-- A value at the program's powers is the reference's. -/
theorem refVal_of (x : IVec S4096x12288 32) (mp : IVec S12288 32) (cells : FVec F S1024x4096x16 .f32) :
    meanRef (looked cells (keysOf (powers 6) (taken x mp))) = refVal x mp cells := by
  have e : powers 6 = weights := funext powers_eq
  rw [e]; rfl

/-! ## The run -/

/-- From any memory the reference ends with its result at `refVal` of the arguments, and these as they were. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ c : Dev nD, r.2.mem ((c.tc : Thread nD τ).loc main_v81)
          = refVal (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) := by
  refine θ_run_mono (run_hlo _ _ (by hlo_seq) (by decide) (by decide) (by simp)
      (by intro _ h; (repeat (cases h with | head => rfl | tail _ h => ?_)); exact nomatch h) _ _) ?_
  intro r hr c
  refine ⟨(hr c main_v81).trans ?_, (hr c main_arg0).trans ?_, (hr c main_arg1).trans ?_, (hr c main_arg2).trans ?_⟩
  · after_reads_simp [beside_eq]
    simp -implicitDefEqProofs only [StableHlo.TRef.toBuf, StableHlo.TRef.ofBuf, cast_cast, cast_eq]
    exact refVal_of (m ((c.tc : Thread nD τ).loc main_arg0)) (m ((c.tc : Thread nD τ).loc main_arg1))
      (m ((c.tc : Thread nD τ).loc main_arg2))
  all_goals after_reads_simp

end Cert.Proof.Reference

end
-- ==== Proof.Reference.Value.lean ====
/-
  The reference's result read at an index, for bits and a mapping in range: which bit a position takes, the key of a row
  and neuron as a sum of powers of two, the cell it looks up, and the mean in the extended reals.
-/
module

public import proofs.«01_k».proof.Proof.Reference.Run
public import Idealize.ShloMosaic.Lib.ReduceAll
public import Idealize.ShloMosaic.Lib.Affine
public import Idealize.ShloMosaic.Lib.IdealHost
public import Idealize.ShloMosaic.Lib.Pipeline.Value
public import Idealize.ShloMosaic.Lib.StableHlo.Predicate

@[expose] public section

noncomputable section

namespace Cert.Proof.Reference

open Idealize.ShloMosaic Idealize.ShloMosaic.ValueIdx Idealize.SL.Sem
open Cert.ReferenceIdeal Cert.ReferenceIdeal.Gen

/-! ## Axes -/

theorem axis2 (a : Fin 2) : a = 0 ∨ a = 1 := by omega

theorem axis3 (a : Fin 3) : a = 0 ∨ a = 1 ∨ a = 2 := by omega

/-! ## Words that are not negative -/

/-- A word below `2 ^ 31` reads as itself when signed. -/
theorem toInt_small {v : BitVec 32} (h : v.toNat < 2 ^ 31) : v.toInt = (v.toNat : ℤ) := by
  rw [BitVec.toInt_eq_toNat_cond]; omega

/-- The choice that counts a negative position from the end keeps a word that is not negative. -/
theorem keep_nonneg {v : BitVec 32} (w : BitVec 32) (h : v.toNat < 2 ^ 31) :
    Scalar.select (IntOp.cmpi .slt v 0#32) w v = v := by
  have e : IntOp.cmpi .slt v 0#32 = 0#1 := by
    refine eq_zero_of_ne_one fun hc => ?_
    have := IntOp.cmpi_slt.mp hc
    rw [toInt_small h] at this
    simp at this; omega
  rw [e]; rfl

/-! ## The bits taken -/

section Take

variable {mp : IVec S12288 32} (hm : ∀ n, (mp n).toNat < 12288)

include hm

/-- The column of positions holds the mapping. -/
theorem takeIx_at (n : Fin 12288) (z : Fin 1) : takeIx mp (ix2 n z) = mp (ix1 n) := by
  unfold takeIx
  rw [broadcastInDim_apply _ _ _ _ (ix1 n) (fun a => by match a with | ⟨0, _⟩ => rfl)]
  exact keep_nonneg _ (by have := hm (ix1 n); omega)

/-- Every position lies in the row. -/
theorem takeOk_at (n : S12288.Idx) : takeOk mp n = 1#1 := by
  unfold takeOk
  refine Host.reduce_andi_one _ _ _ _ _ rfl fun y => ?_
  obtain ⟨p, z, rfl⟩ : ∃ (p : Fin 12288) (z : Fin 1), y = ix2 p z := ⟨y 0, y 1, eq_ix2 y⟩
  show IntOp.andi (IntOp.cmpi .sge (takeIx mp (ix2 p z)) 0#32) (IntOp.cmpi .sle (takeIx mp (ix2 p z)) 12287#32) = 1#1
  rw [takeIx_at hm, IntOp.andi_eq_one, IntOp.cmpi_sge, IntOp.cmpi_sle]
  have := hm (ix1 p)
  rw [toInt_small (v := mp (ix1 p)) (by omega)]
  refine ⟨?_, ?_⟩
  · show (0 : ℤ) ≤ _; omega
  · show _ ≤ (12287 : ℤ); omega

/-- The row's gather at position `n` reads the position the mapping names. -/
theorem gatherRow_at (x : IVec S4096x12288 32) (b : Fin 4096) (n : Fin 12288) :
    Host.gather gather_S4096x12288_S12288x1_S4096x12288_0_1_n_n_1_1_40961 x (takeIx mp) (ix2 b n)
      = x (ix2 b ⟨(mp (ix1 n)).toNat, hm _⟩) := by
  unfold Host.gather
  refine congrArg x (funext fun a => Fin.ext ?_)
  generalize hd : gather_S4096x12288_S12288x1_S4096x12288_0_1_n_n_1_1_40961 = d
  show d.start (ix2 b n) (takeIx mp) a + d.batchCoord (ix2 b n) a + d.offCoord (ix2 b n) a = _
  subst hd
  rw [GatherDims.batchCoord_eq_zero _ _ _ (by exact List.not_mem_nil)]
  obtain rfl | rfl := axis2 a
  · rw [GatherDims.start, dif_neg (by decide), GatherDims.offCoord, dif_pos (by decide)]
    exact Nat.zero_add _
  · rw [GatherDims.offCoord_eq_zero _ _ _ (by decide), GatherDims.start, dif_pos (by decide)]
    have e : (gather_S4096x12288_S12288x1_S4096x12288_0_1_n_n_1_1_40961).siIdx (ix2 b n)
        ⟨List.idxOf (1 : Fin 2) [1], by decide⟩ = ix2 n 0 := by
      funext c; refine Fin.ext ?_
      match c with
      | ⟨0, _⟩ => rfl
      | ⟨1, _⟩ => rfl
    have ht : takeIx mp ((gather_S4096x12288_S12288x1_S4096x12288_0_1_n_n_1_1_40961).siIdx (ix2 b n)
        ⟨List.idxOf (1 : Fin 2) [1], by decide⟩) = mp (ix1 n) := by rw [e, takeIx_at hm]
    show min (takeIx mp ((gather_S4096x12288_S12288x1_S4096x12288_0_1_n_n_1_1_40961).siIdx (ix2 b n)
        ⟨List.idxOf (1 : Fin 2) [1], by decide⟩)).toInt.toNat (12288 - 1) + 0 + 0 = (mp (ix1 n)).toNat
    have := hm (ix1 n)
    rw [ht, toInt_small (by omega), Int.toNat_natCast]
    omega

/-- The bit taken at position `n` of row `b` is the row's bit at the mapping's entry. -/
theorem taken_at (x : IVec S4096x12288 32) (b : Fin 4096) (n : Fin 12288) :
    taken x mp (ix2 b n) = x (ix2 b ⟨(mp (ix1 n)).toNat, hm _⟩) := by
  unfold taken
  rw [select_apply, broadcastInDim_apply _ _ (takeOk mp) _ (ix1 n) (fun a => by match a with | ⟨0, _⟩ => rfl),
    takeOk_at hm, select_one, gatherRow_at hm]

end Take

/-! ## The keys -/

theorem reduces_bits : S4096x1024x12.Reduces [2] S4096x1024 := by decide

/-- One bit of a key: position `12 n + j` of the row, at the weight `2 ^ j`. -/
theorem weighted_at (t : IVec S4096x12288 32) (b : Fin 4096) (n : Fin 1024) (j : Fin 12) :
    muli (shapeCast S4096x1024x12 t shapeCasts_S4096x12288_S4096x1024x12)
      (broadcastInDim S4096x1024x12 ![0, 1, 2] bcast_S1x1x12_S4096x1024x12_0_1_2
        (broadcastInDim S1x1x12 ![2] bcast_S12_S1x1x12_2 weights)) (ix3 b n j)
      = t (ix2 b ⟨12 * n.val + j.val, by omega⟩) * BitVec.ofNat 32 (2 ^ j.val) := by
  show IntOp.muli (shapeCast S4096x1024x12 t shapeCasts_S4096x12288_S4096x1024x12 (ix3 b n j)) _ = _
  rw [shapeCast_apply _ _ _ (ix2 b ⟨12 * n.val + j.val, by omega⟩)
      (by
        rw [Shape.rowMajor_val_two, Shape.rowMajor_val_three]
        show b.val * 12288 + (12 * n.val + j.val) = (b.val * 1024 + n.val) * 12 + j.val
        omega),
    broadcastInDim_apply _ _ _ _ (ix3 (0 : Fin 1) (0 : Fin 1) j)
      (fun a => by match a with | ⟨0, _⟩ => rfl | ⟨1, _⟩ => rfl | ⟨2, _⟩ => rfl),
    broadcastInDim_apply _ _ _ _ (ix1 j) (fun a => by match a with | ⟨0, _⟩ => rfl)]
  rfl

/-- A bit at a weight is its value times the weight. -/
theorem weighted_toNat {v : BitVec 32} (h : v.toNat < 2) (j : Fin 12) :
    (v * BitVec.ofNat 32 (2 ^ j.val)).toNat = v.toNat * 2 ^ j.val := by
  have hj : (2 : ℕ) ^ j.val ≤ 2 ^ 11 := Nat.pow_le_pow_right (by omega) (by omega)
  rw [BitVec.toNat_mul, BitVec.toNat_ofNat, Nat.mod_eq_of_lt (a := 2 ^ j.val) (by omega)]
  refine Nat.mod_eq_of_lt ?_
  have := Nat.mul_le_mul (Nat.le_of_lt_succ h) hj
  omega

/-- Twelve bits at their weights stay below 4096. -/
theorem bits_lt (f : Fin 12 → ℕ) (h : ∀ j, f j < 2) : ∑ j, f j * 2 ^ j.val < 4096 := by
  have e : ∑ j : Fin 12, f j * 2 ^ j.val ≤ ∑ j : Fin 12, 1 * 2 ^ j.val :=
    Finset.sum_le_sum fun j _ => Nat.mul_le_mul_right _ (Nat.le_of_lt_succ (h j))
  refine lt_of_le_of_lt e ?_
  decide

/-- The key of row `b` and neuron `n`: its twelve bits, bit `j` at weight `2 ^ j`. -/
theorem keysOf_at {t : IVec S4096x12288 32} (ht : ∀ y, (t y).toNat < 2) (b : Fin 4096) (n : Fin 1024) :
    (keysOf weights t (ix2 b n)).toNat = ∑ j : Fin 12, (t (ix2 b ⟨12 * n.val + j.val, by omega⟩)).toNat * 2 ^ j.val := by
  have e : ∀ j : Fin 12, (muli (shapeCast S4096x1024x12 t shapeCasts_S4096x12288_S4096x1024x12)
      (broadcastInDim S4096x1024x12 ![0, 1, 2] bcast_S1x1x12_S4096x1024x12_0_1_2
        (broadcastInDim S1x1x12 ![2] bcast_S12_S1x1x12_2 weights)) (reduces_bits.lift (ix2 b n) j)).toNat
      = (t (ix2 b ⟨12 * n.val + j.val, by omega⟩)).toNat * 2 ^ j.val := by
    intro j
    have hl : reduces_bits.lift (ix2 b n) j = ix3 b n j := by
      funext a; refine Fin.ext ?_
      match a with | ⟨0, _⟩ => rfl | ⟨1, _⟩ => rfl | ⟨2, _⟩ => rfl
    rw [hl, weighted_at, weighted_toNat (ht _)]
  unfold keysOf
  rw [Host.reduce_eq_fold_single _ _ _ _ reduces_bits]
  refine (StableHlo.Predicate.toNat_fold_addi _ _ ?_).trans (Finset.sum_congr rfl fun j _ => e j)
  refine lt_of_eq_of_lt (Finset.sum_congr rfl fun j _ => e j) ?_
  exact lt_trans (bits_lt _ fun j => ht _) (by decide)

/-- A key is below 4096. -/
theorem keysOf_lt {t : IVec S4096x12288 32} (ht : ∀ y, (t y).toNat < 2) (b : Fin 4096) (n : Fin 1024) :
    (keysOf weights t (ix2 b n)).toNat < 4096 := by
  rw [keysOf_at ht]; exact bits_lt _ fun j => ht _

/-! ## The cells looked up -/

/-- The neurons' numbers. -/
theorem neurons_at (n : Fin 1024) : neurons (ix2 0 n) = BitVec.ofNat 32 n.val := by
  unfold neurons
  have e : broadcastInDim S1x1024 ![1] bcast_S1024_S1x1024_1 (iotaInDim S1024 32 0) (ix2 0 n) = BitVec.ofNat 32 n.val := by
    rw [broadcastInDim_apply _ _ _ _ (ix1 n) (fun a => by match a with | ⟨0, _⟩ => rfl)]; rfl
  have hn := n.isLt
  show Scalar.select (IntOp.cmpi .slt (broadcastInDim S1x1024 ![1] bcast_S1024_S1x1024_1 (iotaInDim S1024 32 0) (ix2 0 n)) 0#32) _
    (broadcastInDim S1x1024 ![1] bcast_S1024_S1x1024_1 (iotaInDim S1024 32 0) (ix2 0 n)) = _
  rw [e]
  exact keep_nonneg _ (by rw [BitVec.toNat_ofNat]; omega)

/-- A pair's first component is the neuron. -/
theorem pairs_fst (k : IVec S4096x1024 32) (b : Fin 4096) (n : Fin 1024) : pairs k (ix3 b n 0) = BitVec.ofNat 32 n.val := by
  unfold pairs beside
  rw [concatenate_pair_apply_left (t := S4096x1024x2) (s₁ := S4096x1024x1) (s₂ := S4096x1024x1) 2 _ _ _ _ rfl (ix3 b n 0)
      (fun a => by match a with | ⟨0, _⟩ => rfl | ⟨1, _⟩ => rfl | ⟨2, _⟩ => rfl),
    broadcastInDim_apply _ _ _ _ (ix2 b n) (fun a => by match a with | ⟨0, _⟩ => rfl | ⟨1, _⟩ => rfl),
    broadcastInDim_apply _ _ _ _ (ix2 0 n) (fun a => by match a with | ⟨0, _⟩ => rfl | ⟨1, _⟩ => rfl),
    neurons_at]

/-- A pair's second component is the key. -/
theorem pairs_snd {k : IVec S4096x1024 32} (b : Fin 4096) (n : Fin 1024) (h : (k (ix2 b n)).toNat < 4096) :
    pairs k (ix3 b n 1) = k (ix2 b n) := by
  unfold pairs beside
  rw [concatenate_pair_apply_right (t := S4096x1024x2) (s₁ := S4096x1024x1) (s₂ := S4096x1024x1) 2 _ _ _ _ rfl rfl (ix3 b n 0)
      (fun a ha => by match a with | ⟨0, _⟩ => rfl | ⟨1, _⟩ => rfl | ⟨2, _⟩ => exact absurd rfl ha) rfl,
    broadcastInDim_apply _ _ _ _ (ix2 b n) (fun a => by match a with | ⟨0, _⟩ => rfl | ⟨1, _⟩ => rfl)]
  exact keep_nonneg _ (by omega)

/-- The cell looked up for row `b` and neuron `n`: the neuron's cell at the key. -/
theorem looked_at {F : FTy → Type} [FloatOps F] (cells : FVec F S1024x4096x16 .f32) {k : IVec S4096x1024 32}
    (b : Fin 4096) (n : Fin 1024) (l : Fin 16) (h : (k (ix2 b n)).toNat < 4096) :
    looked cells k (ix3 b n l) = cells (ix3 n ⟨(k (ix2 b n)).toNat, h⟩ l) := by
  unfold looked Host.gather
  refine congrArg cells (funext fun a => Fin.ext ?_)
  generalize hd : gather_S1024x4096x16_S4096x1024x2_S4096x1024x16_2_01_n_n_01_2_1116 = d
  show d.start (ix3 b n l) (pairs k) a + d.batchCoord (ix3 b n l) a + d.offCoord (ix3 b n l) a = _
  subst hd
  rw [GatherDims.batchCoord_eq_zero _ _ _ (by exact List.not_mem_nil)]
  have hn := n.isLt
  obtain rfl | rfl | rfl := axis3 a
  · rw [GatherDims.offCoord_eq_zero _ _ _ (by decide), GatherDims.start, dif_pos (by decide)]
    have e : (gather_S1024x4096x16_S4096x1024x2_S4096x1024x16_2_01_n_n_01_2_1116).siIdx (ix3 b n l)
        ⟨List.idxOf (0 : Fin 3) [0, 1], by decide⟩ = ix3 b n 0 := by
      funext c; refine Fin.ext ?_
      match c with | ⟨0, _⟩ => rfl | ⟨1, _⟩ => rfl | ⟨2, _⟩ => rfl
    have ht := (congrArg (pairs k) e).trans (pairs_fst k b n)
    show min (pairs k ((gather_S1024x4096x16_S4096x1024x2_S4096x1024x16_2_01_n_n_01_2_1116).siIdx (ix3 b n l)
        ⟨List.idxOf (0 : Fin 3) [0, 1], by decide⟩)).toInt.toNat (1024 - 1) + 0 + 0 = n.val
    have hv : (BitVec.ofNat 32 n.val).toNat = n.val := by rw [BitVec.toNat_ofNat]; omega
    rw [ht, toInt_small (by omega), Int.toNat_natCast, hv]
    omega
  · rw [GatherDims.offCoord_eq_zero _ _ _ (by decide), GatherDims.start, dif_pos (by decide)]
    have e : (gather_S1024x4096x16_S4096x1024x2_S4096x1024x16_2_01_n_n_01_2_1116).siIdx (ix3 b n l)
        ⟨List.idxOf (1 : Fin 3) [0, 1], by decide⟩ = ix3 b n 1 := by
      funext c; refine Fin.ext ?_
      match c with | ⟨0, _⟩ => rfl | ⟨1, _⟩ => rfl | ⟨2, _⟩ => rfl
    have ht := (congrArg (pairs k) e).trans (pairs_snd b n h)
    show min (pairs k ((gather_S1024x4096x16_S4096x1024x2_S4096x1024x16_2_01_n_n_01_2_1116).siIdx (ix3 b n l)
        ⟨List.idxOf (1 : Fin 3) [0, 1], by decide⟩)).toInt.toNat (4096 - 1) + 0 + 0 = (k (ix2 b n)).toNat
    rw [ht, toInt_small (by omega), Int.toNat_natCast]
    omega
  · rw [GatherDims.start, dif_neg (by decide), GatherDims.offCoord, dif_pos (by decide)]
    exact Nat.zero_add _

/-! ## The mean -/

theorem reduces_neurons : S4096x1024x16.Reduces [1] S4096x16 := by decide

/-- The divisor's pattern is twelve. -/
theorem twelve : Ideal.ofBits .f32 0x41400000#32 = ((12 : ℝ) : EReal) := by
  simp [Ideal.ofBits, Ideal.ieee, -EReal.coe_mul]; norm_num

/-- The mean at row `b`, lane `l`: the sum over the neurons times one twelfth. -/
theorem meanRef_at (g : FVec Ideal S4096x1024x16 .f32) (b : Fin 4096) (l : Fin 16) :
    meanRef g (ix2 b l) = (∑ n : Fin 1024, g (ix3 b n l)) * ((1 / 12 : ℝ) : EReal) := by
  unfold meanRef
  rw [hostDivf_apply, hostReduceAdd_apply, Ideal.hostReduceAdd_single _ reduces_neurons]
  have e : ∀ n : Fin 1024, g (reduces_neurons.lift (ix2 b l) n) = g (ix3 b n l) := by
    intro n
    refine congrArg g (funext fun a => Fin.ext ?_)
    match a with | ⟨0, _⟩ => rfl | ⟨1, _⟩ => rfl | ⟨2, _⟩ => rfl
  show Ideal.div (Ideal.ofBits .f32 0x00000000#32 + _) (Ideal.ofBits .f32 0x41400000#32) = _
  rw [twelve, Ideal.div_coe (by norm_num), Ideal.ofBits_zero_f32, zero_add]
  exact congrArg (· * _) (Finset.sum_congr rfl fun n _ => e n)

end Cert.Proof.Reference

end
-- ==== Proof.Equation.lean ====
/-
  The kernel's value is the reference's, over the extended reals: the same bits address the same cells, the rows are
  added up in the same sum, and twelve divides as the named twelfth multiplies.
-/
module

public import proofs.«01_k».proof.Proof.Reference.Value
public import proofs.«01_k».proof.Proof.KernelIdeal.Payload
public import proofs.«01_k».proof.Proof.KernelIdeal.Keys

@[expose] public section

noncomputable section

namespace Cert.Proof

open Idealize.ShloMosaic Idealize.ShloMosaic.ValueIdx Idealize.SL.Sem
open Cert.Proof.KernelIdeal Cert.Proof.Reference
open Cert.ReferenceIdeal (S4096x12288 S12288 S1024x4096x16 S4096x16)

/-! ## The kernel's index functions at given coordinates -/

theorem i1_ix {n : ℕ} (h : n < 12288) : i1 n = ix1 ⟨n, h⟩ := by
  funext a; match a with | ⟨0, _⟩ => exact Fin.ext (Nat.mod_eq_of_lt h)

theorem iX_ix (b : Fin 4096) (n : Fin 12288) : iX b.val n.val = ix2 b n := by
  funext a
  match a with
  | ⟨0, _⟩ => exact Fin.ext (Nat.mod_eq_of_lt b.isLt)
  | ⟨1, _⟩ => exact Fin.ext (Nat.mod_eq_of_lt n.isLt)

/-! ## The host's two rearrangements -/

/-- The permuted mapping's entry `1024 j + n` is the mapping's entry `12 n + j`. -/
theorem permOf_at (mp : S12288.Idx → BitVec 32) (n : Fin 1024) (j : Fin 12) :
    permOf mp (i1 (1024 * j.val + n.val)) = mp (ix1 ⟨12 * n.val + j.val, by omega⟩) := by
  unfold permOf
  rw [i1_ix (by omega),
    shapeCast_apply _ _ _ (ix2 j n) (by
      rw [Shape.rowMajor_val_two, Shape.rowMajor_val_one]
      show j.val * 1024 + n.val = 1024 * j.val + n.val
      omega),
    transpose_apply _ _ _ _ (ix2 n j) (fun a => by obtain rfl | rfl := axis2 a <;> rfl),
    shapeCast_apply _ _ _ (ix1 ⟨12 * n.val + j.val, by omega⟩) (by
      rw [Shape.rowMajor_val_two, Shape.rowMajor_val_one]
      show 12 * n.val + j.val = n.val * 12 + j.val
      omega)]

/-- The table's row `4096 n + k` is the neuron `n`'s cell `k`. -/
theorem tabOf_at {F : FTy → Type} [FloatOps F] (cells : S1024x4096x16.Idx → F .f32) (n : Fin 1024) (k : Fin 4096) (l : Fin 16) :
    tabOf (F := F) cells (iT (k.val + 4096 * n.val) l) = cells (ix3 n k l) := by
  unfold tabOf
  refine shapeCast_apply _ _ _ (ix3 n k l) ?_
  rw [Shape.rowMajor_val_two, Shape.rowMajor_val_three]
  show (n.val * 4096 + k.val) * 16 + l.val = (k.val + 4096 * n.val) % 4194304 * 16 + l.val
  rw [Nat.mod_eq_of_lt (by omega)]
  omega

/-! ## The keys -/

section Keys

variable {x : IVec S4096x12288 32} {mp : IVec S12288 32} (hx : ∀ y, (x y).toNat < 2) (hm : ∀ n, (mp n).toNat < 12288)

include hm

/-- Address bit `j` of neuron `n` is the bit the reference takes at `12 n + j`. -/
theorem bit_eq (b : Fin 4096) (n : Fin 1024) (j : Fin 12) :
    bit (fun p => x (iX b.val (p 0).val)) (permOf mp) n.val j.val = taken x mp (ix2 b ⟨12 * n.val + j.val, by omega⟩) := by
  rw [taken_at hm]
  unfold bit
  rw [permOf_at, i1_ix (hm _)]
  exact congrArg x (iX_ix b ⟨_, hm _⟩)

include hx

/-- The bits taken are bits. -/
theorem taken_lt (y : S4096x12288.Idx) : (taken x mp y).toNat < 2 := by
  obtain ⟨b, n, rfl⟩ : ∃ (b : Fin 4096) (n : Fin 12288), y = ix2 b n := ⟨y 0, y 1, eq_ix2 y⟩
  rw [taken_at hm]; exact hx _

/-- The kernel's key is the reference's. -/
theorem key_eq (b : Fin 4096) (n : Fin 1024) :
    (key (fun p => x (iX b.val (p 0).val)) (permOf mp) n.val).toNat = (keysOf weights (taken x mp) (ix2 b n)).toNat := by
  rw [key_toNat _ _ (fun y => hx _), keysOf_at (taken_lt hx hm), Finset.sum_range]
  exact Finset.sum_congr rfl fun j _ => by rw [bit_eq hm]

/-- The row the kernel gathers for neuron `n` is the cell the reference looks up. -/
theorem rowVal_eq {F : FTy → Type} [FloatOps F] (cells : FVec F S1024x4096x16 .f32) (b : Fin 4096) (n : Fin 1024) (l : Fin 16) :
    rowVal (fun p => x (iX b.val (p 0).val)) (permOf mp) (tabOf (F := F) cells) (iG n.val l)
      = looked cells (keysOf weights (taken x mp)) (ix3 b n l) := by
  have hk := keysOf_lt (taken_lt hx hm) b n
  rw [looked_at cells b n l hk, ← tabOf_at (F := F) cells n ⟨_, hk⟩ l]
  show tabOf (F := F) cells (iT (gid _ _ (n.val % 1024)).toNat l) = _
  rw [Nat.mod_eq_of_lt n.isLt, gid_toNat _ _ (fun y => hx _) _ n.isLt, key_eq hx hm]

end Keys

/-! ## The mean -/

/-- The running sum in the extended reals is the sum. -/
theorem sumTo_eq (G : Cert.KernelIdeal.S1024x16.Idx → Ideal .f32) (l : Fin 16) (n : ℕ) :
    sumTo (F := Ideal) G n (iL l) = ∑ k ∈ Finset.range n, G (iG k l) := by
  induction n with
  | zero => exact Ideal.ofBits_zero_f32
  | succ n ih =>
    rw [Finset.sum_range_succ, ← ih]
    rfl

/-- The mean's lane in the extended reals: the sum times one twelfth. -/
theorem meanOf_eq (G : Cert.KernelIdeal.S1024x16.Idx → Ideal .f32) (l : Fin 16) :
    meanOf (F := Ideal) G l = (∑ n : Fin 1024, G (iG n.val l)) * ((1 / 12 : ℝ) : EReal) := by
  have e : meanOf (F := Ideal) G l = sumTo (F := Ideal) G 1024 (iL l) * ((1 / 12 : ℝ) : EReal) := rfl
  rw [e, sumTo_eq, Finset.sum_range]

/-- The kernel's result is the reference's. -/
theorem value_eq {x : IVec S4096x12288 32} {mp : IVec S12288 32} (cells : FVec Ideal S1024x4096x16 .f32)
    (hx : ∀ y, (x y).toNat < 2) (hm : ∀ n, (mp n).toNat < 12288) :
    outVal (F := Ideal) x (permOf mp) (tabOf (F := Ideal) cells) = refVal x mp cells := by
  funext y
  obtain ⟨b, l, rfl⟩ : ∃ (b : Fin 4096) (l : Fin 16), y = ix2 b l := ⟨y 0, y 1, eq_ix2 y⟩
  unfold refVal
  rw [meanRef_at]
  show meanOf (F := Ideal) (rowVal (fun p => x (iX b.val (p 0).val)) (permOf mp) (tabOf (F := Ideal) cells)) l = _
  rw [meanOf_eq]
  exact congrArg (· * _) (Finset.sum_congr rfl fun n _ => rowVal_eq hx hm cells b n l)

end Cert.Proof

end
-- ==== Proof.Algebra.lean ====
/-
  The reference's frames, and the equation of the two programs: from memories agreeing on the arguments the kernel and the
  reference both run, and both end with the reference's value.
-/
module

public import proofs.«01_k».proof.Proof.Pre
public import proofs.«01_k».proof.Proof.Equation

@[expose] public section

noncomputable section

namespace Cert.Proof

open Idealize.ShloMosaic Idealize.SL.Sem

/-- The reference runs, its arguments and counters end as they began. -/
theorem frame_ref : Cert.quiescent_ReferenceIdeal := fun m g _ =>
  (θ_run Cert.ReferenceIdeal.defs _ _).mono
    (fun r h => ⟨fun c => ⟨(h c).2.1, (h c).2.2.1, (h c).2.2.2⟩, sem_eq_zero_of_no_sems (by decide) r.2⟩)
    (Cert.Proof.Reference.run_main (F := Ideal) m g)

/-- The same under the precondition. -/
theorem frame_ref_pre : Cert.quiescent_ReferenceIdeal_pre_in_range := fun m g _ => frame_ref m g trivial

/-- Kernel and reference end with equal results. -/
theorem algebraic : Cert.algebraic_KernelIdeal_ReferenceIdeal := by
  intro m g m' g' hpre harg
  refine ⟨fun c => Cert.Proof.KernelIdeal.outV (F := Ideal) m c, ?_, ?_⟩
  · exact (θ_run Cert.KernelIdeal.defs _ _).mono
      (fun _ h c => ⟨(h.1 c).2.2.2, (h.1 c).1, (h.1 c).2.1, (h.1 c).2.2.1⟩)
      (Cert.Proof.KernelIdeal.run_main (F := Ideal) m g (ideal_ok m hpre))
  · refine (θ_run Cert.ReferenceIdeal.defs _ _).mono (fun _ h c => ⟨(h c).1.trans ?_, (h c).2⟩)
      (Cert.Proof.Reference.run_main (F := Ideal) m' g')
    obtain ⟨h0, h1, h2⟩ := harg c
    rw [h0, h1, h2]
    have hr := in_range _ _ _ (hpre c)
    exact (value_eq _ hr.1 hr.2).symm

end Cert.Proof

end
-- ==== Proof.lean ====
/-
  The proof of `Cert.Claim`: the two kernels' frames and the rewrite between them (Proof.Pre), the reference's frames and
  the equation of kernel and reference (Proof.Algebra).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Pre
public import proofs.«01_k».proof.Proof.Algebra

@[expose] public section

namespace Cert.Proof

/-- Everything the certificate claims. -/
theorem claim : Cert.Claim :=
  ⟨Cert.Kernel.Gen.facts, Cert.KernelIdeal.Gen.facts, Cert.ReferenceIdeal.Gen.facts, Cert.Pre_in_range.Gen.facts,
    frame_kernel, frame_ideal, frame_ref, frame_ref_pre, preserves, algebraic⟩

end Cert.Proof

end
